-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_segments_valid [hPre_segments_valid : Cert.Pre_segments_valid.Facts] (m : (ℓ : Loc Cert.KernelIdeal.nD Cert.KernelIdeal.τ Cert.KernelIdeal.sig) → Buf (Elt Ideal) ℓ) : Prop :=
  ∀ c : Dev Cert.KernelIdeal.nD,
    (Cert.Pre_segments_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_inputs_valid [hPre_inputs_valid : Cert.Pre_inputs_valid.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_inputs_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_segments_valid [hPre_segments_valid : Cert.Pre_segments_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_segments_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_GuardedIdeal (m : (ℓ : Loc Cert.GuardedIdeal.nD Cert.GuardedIdeal.τ Cert.GuardedIdeal.sig) → Buf (Elt Ideal) ℓ) : Prop :=
  True

def Pre_GuardedIdeal_inputs_valid [hPre_inputs_valid : Cert.Pre_inputs_valid.Facts] (m : (ℓ : Loc Cert.GuardedIdeal.nD Cert.GuardedIdeal.τ Cert.GuardedIdeal.sig) → Buf (Elt Ideal) ℓ) : Prop :=
  ∀ c : Dev Cert.GuardedIdeal.nD,
    (Cert.Pre_inputs_valid.fn (F := Ideal) (m ((c.tc : Thread Cert.GuardedIdeal.nD Cert.GuardedIdeal.τ).loc Cert.GuardedIdeal.main_arg0)) (m ((c.tc : Thread Cert.GuardedIdeal.nD Cert.GuardedIdeal.τ).loc Cert.GuardedIdeal.main_arg1)) (m ((c.tc : Thread Cert.GuardedIdeal.nD Cert.GuardedIdeal.τ).loc Cert.GuardedIdeal.main_arg2)) (m ((c.tc : Thread Cert.GuardedIdeal.nD Cert.GuardedIdeal.τ).loc Cert.GuardedIdeal.main_arg3)) (m ((c.tc : Thread Cert.GuardedIdeal.nD Cert.GuardedIdeal.τ).loc Cert.GuardedIdeal.main_arg4)) (m ((c.tc : Thread Cert.GuardedIdeal.nD Cert.GuardedIdeal.τ).loc Cert.GuardedIdeal.main_arg5)) (m ((c.tc : Thread Cert.GuardedIdeal.nD Cert.GuardedIdeal.τ).loc Cert.GuardedIdeal.main_arg6)) (m ((c.tc : Thread Cert.GuardedIdeal.nD Cert.GuardedIdeal.τ).loc Cert.GuardedIdeal.main_arg7)) (m ((c.tc : Thread Cert.GuardedIdeal.nD Cert.GuardedIdeal.τ).loc Cert.GuardedIdeal.main_arg8)) (m ((c.tc : Thread Cert.GuardedIdeal.nD Cert.GuardedIdeal.τ).loc Cert.GuardedIdeal.main_arg9))).1 = (fun _ => 1#1)
    ∧ (Cert.Pre_inputs_valid.fn (F := Ideal) (m ((c.tc : Thread Cert.GuardedIdeal.nD Cert.GuardedIdeal.τ).loc Cert.GuardedIdeal.main_arg0)) (m ((c.tc : Thread Cert.GuardedIdeal.nD Cert.GuardedIdeal.τ).loc Cert.GuardedIdeal.main_arg1)) (m ((c.tc : Thread Cert.GuardedIdeal.nD Cert.GuardedIdeal.τ).loc Cert.GuardedIdeal.main_arg2)) (m ((c.tc : Thread Cert.GuardedIdeal.nD Cert.GuardedIdeal.τ).loc Cert.GuardedIdeal.main_arg3)) (m ((c.tc : Thread Cert.GuardedIdeal.nD Cert.GuardedIdeal.τ).loc Cert.GuardedIdeal.main_arg4)) (m ((c.tc : Thread Cert.GuardedIdeal.nD Cert.GuardedIdeal.τ).loc Cert.GuardedIdeal.main_arg5)) (m ((c.tc : Thread Cert.GuardedIdeal.nD Cert.GuardedIdeal.τ).loc Cert.GuardedIdeal.main_arg6)) (m ((c.tc : Thread Cert.GuardedIdeal.nD Cert.GuardedIdeal.τ).loc Cert.GuardedIdeal.main_arg7)) (m ((c.tc : Thread Cert.GuardedIdeal.nD Cert.GuardedIdeal.τ).loc Cert.GuardedIdeal.main_arg8)) (m ((c.tc : Thread Cert.GuardedIdeal.nD Cert.GuardedIdeal.τ).loc Cert.GuardedIdeal.main_arg9))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_segments_valid [hKernelIdeal : Cert.KernelIdeal.Facts] [hPre_segments_valid : Cert.Pre_segments_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_segments_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_inputs_valid [hKernelIdeal : Cert.KernelIdeal.Facts] [hPre_inputs_valid : Cert.Pre_inputs_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_segments_valid [hReferenceIdeal : Cert.ReferenceIdeal.Facts] [hPre_segments_valid : Cert.Pre_segments_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_segments_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_GuardedIdeal [hGuardedIdeal : Cert.GuardedIdeal.Facts] : Prop :=
  ∀ (m : (ℓ : Loc Cert.GuardedIdeal.nD Cert.GuardedIdeal.τ Cert.GuardedIdeal.sig) → Buf (Elt Ideal) ℓ) (g : Dev Cert.GuardedIdeal.nD → PrngReg), Pre_GuardedIdeal m →
    θ_run (Cert.GuardedIdeal.defs (F := Ideal)) (onTc (τ := Cert.GuardedIdeal.τ) (Cert.GuardedIdeal.main (F := Ideal))) ⟨m, fun _ => 0, g⟩ (fun r => (∀ c : Dev Cert.GuardedIdeal.nD,
      r.2.mem ((c.tc : Thread Cert.GuardedIdeal.nD Cert.GuardedIdeal.τ).loc Cert.GuardedIdeal.main_arg0) = m ((c.tc : Thread Cert.GuardedIdeal.nD Cert.GuardedIdeal.τ).loc Cert.GuardedIdeal.main_arg0)
      ∧ r.2.mem ((c.tc : Thread Cert.GuardedIdeal.nD Cert.GuardedIdeal.τ).loc Cert.GuardedIdeal.main_arg1) = m ((c.tc : Thread Cert.GuardedIdeal.nD Cert.GuardedIdeal.τ).loc Cert.GuardedIdeal.main_arg1)
      ∧ r.2.mem ((c.tc : Thread Cert.GuardedIdeal.nD Cert.GuardedIdeal.τ).loc Cert.GuardedIdeal.main_arg2) = m ((c.tc : Thread Cert.GuardedIdeal.nD Cert.GuardedIdeal.τ).loc Cert.GuardedIdeal.main_arg2)
      ∧ r.2.mem ((c.tc : Thread Cert.GuardedIdeal.nD Cert.GuardedIdeal.τ).loc Cert.GuardedIdeal.main_arg3) = m ((c.tc : Thread Cert.GuardedIdeal.nD Cert.GuardedIdeal.τ).loc Cert.GuardedIdeal.main_arg3)
      ∧ r.2.mem ((c.tc : Thread Cert.GuardedIdeal.nD Cert.GuardedIdeal.τ).loc Cert.GuardedIdeal.main_arg4) = m ((c.tc : Thread Cert.GuardedIdeal.nD Cert.GuardedIdeal.τ).loc Cert.GuardedIdeal.main_arg4)
      ∧ r.2.mem ((c.tc : Thread Cert.GuardedIdeal.nD Cert.GuardedIdeal.τ).loc Cert.GuardedIdeal.main_arg5) = m ((c.tc : Thread Cert.GuardedIdeal.nD Cert.GuardedIdeal.τ).loc Cert.GuardedIdeal.main_arg5)
      ∧ r.2.mem ((c.tc : Thread Cert.GuardedIdeal.nD Cert.GuardedIdeal.τ).loc Cert.GuardedIdeal.main_arg6) = m ((c.tc : Thread Cert.GuardedIdeal.nD Cert.GuardedIdeal.τ).loc Cert.GuardedIdeal.main_arg6)
      ∧ r.2.mem ((c.tc : Thread Cert.GuardedIdeal.nD Cert.GuardedIdeal.τ).loc Cert.GuardedIdeal.main_arg7) = m ((c.tc : Thread Cert.GuardedIdeal.nD Cert.GuardedIdeal.τ).loc Cert.GuardedIdeal.main_arg7)
      ∧ r.2.mem ((c.tc : Thread Cert.GuardedIdeal.nD Cert.GuardedIdeal.τ).loc Cert.GuardedIdeal.main_arg8) = m ((c.tc : Thread Cert.GuardedIdeal.nD Cert.GuardedIdeal.τ).loc Cert.GuardedIdeal.main_arg8)
      ∧ r.2.mem ((c.tc : Thread Cert.GuardedIdeal.nD Cert.GuardedIdeal.τ).loc Cert.GuardedIdeal.main_arg9) = m ((c.tc : Thread Cert.GuardedIdeal.nD Cert.GuardedIdeal.τ).loc Cert.GuardedIdeal.main_arg9))
      ∧ r.2.sem = fun _ => 0)

def quiescent_GuardedIdeal_pre_inputs_valid [hGuardedIdeal : Cert.GuardedIdeal.Facts] [hPre_inputs_valid : Cert.Pre_inputs_valid.Facts] : Prop :=
  ∀ (m : (ℓ : Loc Cert.GuardedIdeal.nD Cert.GuardedIdeal.τ Cert.GuardedIdeal.sig) → Buf (Elt Ideal) ℓ) (g : Dev Cert.GuardedIdeal.nD → PrngReg), Pre_GuardedIdeal_inputs_valid m →
    θ_run (Cert.GuardedIdeal.defs (F := Ideal)) (onTc (τ := Cert.GuardedIdeal.τ) (Cert.GuardedIdeal.main (F := Ideal))) ⟨m, fun _ => 0, g⟩ (fun r => (∀ c : Dev Cert.GuardedIdeal.nD,
      r.2.mem ((c.tc : Thread Cert.GuardedIdeal.nD Cert.GuardedIdeal.τ).loc Cert.GuardedIdeal.main_arg0) = m ((c.tc : Thread Cert.GuardedIdeal.nD Cert.GuardedIdeal.τ).loc Cert.GuardedIdeal.main_arg0)
      ∧ r.2.mem ((c.tc : Thread Cert.GuardedIdeal.nD Cert.GuardedIdeal.τ).loc Cert.GuardedIdeal.main_arg1) = m ((c.tc : Thread Cert.GuardedIdeal.nD Cert.GuardedIdeal.τ).loc Cert.GuardedIdeal.main_arg1)
      ∧ r.2.mem ((c.tc : Thread Cert.GuardedIdeal.nD Cert.GuardedIdeal.τ).loc Cert.GuardedIdeal.main_arg2) = m ((c.tc : Thread Cert.GuardedIdeal.nD Cert.GuardedIdeal.τ).loc Cert.GuardedIdeal.main_arg2)
      ∧ r.2.mem ((c.tc : Thread Cert.GuardedIdeal.nD Cert.GuardedIdeal.τ).loc Cert.GuardedIdeal.main_arg3) = m ((c.tc : Thread Cert.GuardedIdeal.nD Cert.GuardedIdeal.τ).loc Cert.GuardedIdeal.main_arg3)
      ∧ r.2.mem ((c.tc : Thread Cert.GuardedIdeal.nD Cert.GuardedIdeal.τ).loc Cert.GuardedIdeal.main_arg4) = m ((c.tc : Thread Cert.GuardedIdeal.nD Cert.GuardedIdeal.τ).loc Cert.GuardedIdeal.main_arg4)
      ∧ r.2.mem ((c.tc : Thread Cert.GuardedIdeal.nD Cert.GuardedIdeal.τ).loc Cert.GuardedIdeal.main_arg5) = m ((c.tc : Thread Cert.GuardedIdeal.nD Cert.GuardedIdeal.τ).loc Cert.GuardedIdeal.main_arg5)
      ∧ r.2.mem ((c.tc : Thread Cert.GuardedIdeal.nD Cert.GuardedIdeal.τ).loc Cert.GuardedIdeal.main_arg6) = m ((c.tc : Thread Cert.GuardedIdeal.nD Cert.GuardedIdeal.τ).loc Cert.GuardedIdeal.main_arg6)
      ∧ r.2.mem ((c.tc : Thread Cert.GuardedIdeal.nD Cert.GuardedIdeal.τ).loc Cert.GuardedIdeal.main_arg7) = m ((c.tc : Thread Cert.GuardedIdeal.nD Cert.GuardedIdeal.τ).loc Cert.GuardedIdeal.main_arg7)
      ∧ r.2.mem ((c.tc : Thread Cert.GuardedIdeal.nD Cert.GuardedIdeal.τ).loc Cert.GuardedIdeal.main_arg8) = m ((c.tc : Thread Cert.GuardedIdeal.nD Cert.GuardedIdeal.τ).loc Cert.GuardedIdeal.main_arg8)
      ∧ r.2.mem ((c.tc : Thread Cert.GuardedIdeal.nD Cert.GuardedIdeal.τ).loc Cert.GuardedIdeal.main_arg9) = m ((c.tc : Thread Cert.GuardedIdeal.nD Cert.GuardedIdeal.τ).loc Cert.GuardedIdeal.main_arg9))
      ∧ r.2.sem = fun _ => 0)

def preserves_Kernel_KernelIdeal : Prop :=
  True

def algebraic_KernelIdeal_ReferenceIdeal_on_but_entropy_pre_segments_valid [hKernelIdeal : Cert.KernelIdeal.Facts] [hReferenceIdeal : Cert.ReferenceIdeal.Facts] [hPre_segments_valid : Cert.Pre_segments_valid.Facts] [hOn_but_entropy : Cert.On_but_entropy.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_segments_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_arg6)) (v3 : (c : Dev Cert.KernelIdeal.nD) → Buf (Elt Ideal) ((c.tc : Thread Cert.KernelIdeal.nD Cert.KernelIdeal.τ).loc Cert.KernelIdeal.main_v27)) (v4 : (c : Dev Cert.KernelIdeal.nD) → Buf (Elt Ideal) ((c.tc : Thread Cert.KernelIdeal.nD Cert.KernelIdeal.τ).loc Cert.KernelIdeal.main_v26_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![64, 256]⟩ : Shape).Idx, (Cert.On_but_entropy.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1 → r.2.mem ((c.tc : Thread Cert.KernelIdeal.nD Cert.KernelIdeal.τ).loc Cert.KernelIdeal.main_v26_0) i = v0 c i)
          ∧ (∀ i : (⟨1, ![64]⟩ : Shape).Idx, (Cert.On_but_entropy.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 i = 1#1 → r.2.mem ((c.tc : Thread Cert.KernelIdeal.nD Cert.KernelIdeal.τ).loc Cert.KernelIdeal.main_v29) i = v1 c i)
          ∧ (∀ i : (⟨1, ![64]⟩ : Shape).Idx, (Cert.On_but_entropy.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 i = 1#1 → r.2.mem ((c.tc : Thread Cert.KernelIdeal.nD Cert.KernelIdeal.τ).loc Cert.KernelIdeal.main_arg6) i = v2 c i)
          ∧ (∀ i : (⟨1, ![64]⟩ : Shape).Idx, (Cert.On_but_entropy.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 i = 1#1 → r.2.mem ((c.tc : Thread Cert.KernelIdeal.nD Cert.KernelIdeal.τ).loc Cert.KernelIdeal.main_v27) i = v3 c i)
          ∧ (∀ i : (⟨2, ![64, 8]⟩ : Shape).Idx, (Cert.On_but_entropy.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2 i = 1#1 → r.2.mem ((c.tc : Thread Cert.KernelIdeal.nD Cert.KernelIdeal.τ).loc Cert.KernelIdeal.main_v26_2) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![64, 256]⟩ : Shape).Idx, (Cert.On_but_entropy.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1 → r.2.mem ((c.tc : Thread Cert.ReferenceIdeal.nD Cert.ReferenceIdeal.τ).loc Cert.ReferenceIdeal.main_v81) i = v0 c i)
          ∧ (∀ i : (⟨1, ![64]⟩ : Shape).Idx, (Cert.On_but_entropy.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 i = 1#1 → r.2.mem ((c.tc : Thread Cert.ReferenceIdeal.nD Cert.ReferenceIdeal.τ).loc Cert.ReferenceIdeal.main_v83) i = v1 c i)
          ∧ (∀ i : (⟨1, ![64]⟩ : Shape).Idx, (Cert.On_but_entropy.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 i = 1#1 → r.2.mem ((c.tc : Thread Cert.ReferenceIdeal.nD Cert.ReferenceIdeal.τ).loc Cert.ReferenceIdeal.main_arg6) i = v2 c i)
          ∧ (∀ i : (⟨1, ![64]⟩ : Shape).Idx, (Cert.On_but_entropy.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 i = 1#1 → r.2.mem ((c.tc : Thread Cert.ReferenceIdeal.nD Cert.ReferenceIdeal.τ).loc Cert.ReferenceIdeal.main_v74) i = v3 c i)
          ∧ (∀ i : (⟨2, ![64, 8]⟩ : Shape).Idx, (Cert.On_but_entropy.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2 i = 1#1 → r.2.mem ((c.tc : Thread Cert.ReferenceIdeal.nD Cert.ReferenceIdeal.τ).loc Cert.ReferenceIdeal.main_v72) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def algebraic_KernelIdeal_GuardedIdeal_pre_inputs_valid [hKernelIdeal : Cert.KernelIdeal.Facts] [hGuardedIdeal : Cert.GuardedIdeal.Facts] [hPre_inputs_valid : Cert.Pre_inputs_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.GuardedIdeal.nD Cert.GuardedIdeal.τ Cert.GuardedIdeal.sig) → Buf (Elt Ideal) ℓ) (g' : Dev Cert.GuardedIdeal.nD → PrngReg), Pre_KernelIdeal_inputs_valid m →
    (∀ c : Dev Cert.KernelIdeal.nD,
      m' ((c.tc : Thread Cert.GuardedIdeal.nD Cert.GuardedIdeal.τ).loc Cert.GuardedIdeal.main_arg0) = m ((c.tc : Thread Cert.KernelIdeal.nD Cert.KernelIdeal.τ).loc Cert.KernelIdeal.main_arg0)
      ∧ m' ((c.tc : Thread Cert.GuardedIdeal.nD Cert.GuardedIdeal.τ).loc Cert.GuardedIdeal.main_arg1) = m ((c.tc : Thread Cert.KernelIdeal.nD Cert.KernelIdeal.τ).loc Cert.KernelIdeal.main_arg1)
      ∧ m' ((c.tc : Thread Cert.GuardedIdeal.nD Cert.GuardedIdeal.τ).loc Cert.GuardedIdeal.main_arg2) = m ((c.tc : Thread Cert.KernelIdeal.nD Cert.KernelIdeal.τ).loc Cert.KernelIdeal.main_arg2)
      ∧ m' ((c.tc : Thread Cert.GuardedIdeal.nD Cert.GuardedIdeal.τ).loc Cert.GuardedIdeal.main_arg3) = m ((c.tc : Thread Cert.KernelIdeal.nD Cert.KernelIdeal.τ).loc Cert.KernelIdeal.main_arg3)
      ∧ m' ((c.tc : Thread Cert.GuardedIdeal.nD Cert.GuardedIdeal.τ).loc Cert.GuardedIdeal.main_arg4) = m ((c.tc : Thread Cert.KernelIdeal.nD Cert.KernelIdeal.τ).loc Cert.KernelIdeal.main_arg4)
      ∧ m' ((c.tc : Thread Cert.GuardedIdeal.nD Cert.GuardedIdeal.τ).loc Cert.GuardedIdeal.main_arg5) = m ((c.tc : Thread Cert.KernelIdeal.nD Cert.KernelIdeal.τ).loc Cert.KernelIdeal.main_arg5)
      ∧ m' ((c.tc : Thread Cert.GuardedIdeal.nD Cert.GuardedIdeal.τ).loc Cert.GuardedIdeal.main_arg6) = m ((c.tc : Thread Cert.KernelIdeal.nD Cert.KernelIdeal.τ).loc Cert.KernelIdeal.main_arg6)
      ∧ m' ((c.tc : Thread Cert.GuardedIdeal.nD Cert.GuardedIdeal.τ).loc Cert.GuardedIdeal.main_arg7) = m ((c.tc : Thread Cert.KernelIdeal.nD Cert.KernelIdeal.τ).loc Cert.KernelIdeal.main_arg7)
      ∧ m' ((c.tc : Thread Cert.GuardedIdeal.nD Cert.GuardedIdeal.τ).loc Cert.GuardedIdeal.main_arg8) = m ((c.tc : Thread Cert.KernelIdeal.nD Cert.KernelIdeal.τ).loc Cert.KernelIdeal.main_arg8)
      ∧ m' ((c.tc : Thread Cert.GuardedIdeal.nD Cert.GuardedIdeal.τ).loc Cert.GuardedIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_arg6)) (v3 : (c : Dev Cert.KernelIdeal.nD) → Buf (Elt Ideal) ((c.tc : Thread Cert.KernelIdeal.nD Cert.KernelIdeal.τ).loc Cert.KernelIdeal.main_v27)) (v4 : (c : Dev Cert.KernelIdeal.nD) → Buf (Elt Ideal) ((c.tc : Thread Cert.KernelIdeal.nD Cert.KernelIdeal.τ).loc Cert.KernelIdeal.main_v26_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg6) = v2 c
          ∧ r.2.mem ((c.tc : Thread Cert.KernelIdeal.nD Cert.KernelIdeal.τ).loc Cert.KernelIdeal.main_v27) = v3 c
          ∧ r.2.mem ((c.tc : Thread Cert.KernelIdeal.nD Cert.KernelIdeal.τ).loc Cert.KernelIdeal.main_v26_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.GuardedIdeal.defs (F := Ideal)) (onTc (τ := Cert.GuardedIdeal.τ) (Cert.GuardedIdeal.main (F := Ideal))) ⟨m', fun _ => 0, g'⟩ (fun r => ∀ c : Dev Cert.GuardedIdeal.nD,
          r.2.mem ((c.tc : Thread Cert.GuardedIdeal.nD Cert.GuardedIdeal.τ).loc Cert.GuardedIdeal.main_v89) = v0 c
          ∧ r.2.mem ((c.tc : Thread Cert.GuardedIdeal.nD Cert.GuardedIdeal.τ).loc Cert.GuardedIdeal.main_v91) = v1 c
          ∧ r.2.mem ((c.tc : Thread Cert.GuardedIdeal.nD Cert.GuardedIdeal.τ).loc Cert.GuardedIdeal.main_arg6) = v2 c
          ∧ r.2.mem ((c.tc : Thread Cert.GuardedIdeal.nD Cert.GuardedIdeal.τ).loc Cert.GuardedIdeal.main_v82) = v3 c
          ∧ r.2.mem ((c.tc : Thread Cert.GuardedIdeal.nD Cert.GuardedIdeal.τ).loc Cert.GuardedIdeal.main_v80) = v4 c
          ∧ r.2.mem ((c.tc : Thread Cert.GuardedIdeal.nD Cert.GuardedIdeal.τ).loc Cert.GuardedIdeal.main_arg0) = m' ((c.tc : Thread Cert.GuardedIdeal.nD Cert.GuardedIdeal.τ).loc Cert.GuardedIdeal.main_arg0)
          ∧ r.2.mem ((c.tc : Thread Cert.GuardedIdeal.nD Cert.GuardedIdeal.τ).loc Cert.GuardedIdeal.main_arg1) = m' ((c.tc : Thread Cert.GuardedIdeal.nD Cert.GuardedIdeal.τ).loc Cert.GuardedIdeal.main_arg1)
          ∧ r.2.mem ((c.tc : Thread Cert.GuardedIdeal.nD Cert.GuardedIdeal.τ).loc Cert.GuardedIdeal.main_arg2) = m' ((c.tc : Thread Cert.GuardedIdeal.nD Cert.GuardedIdeal.τ).loc Cert.GuardedIdeal.main_arg2)
          ∧ r.2.mem ((c.tc : Thread Cert.GuardedIdeal.nD Cert.GuardedIdeal.τ).loc Cert.GuardedIdeal.main_arg3) = m' ((c.tc : Thread Cert.GuardedIdeal.nD Cert.GuardedIdeal.τ).loc Cert.GuardedIdeal.main_arg3)
          ∧ r.2.mem ((c.tc : Thread Cert.GuardedIdeal.nD Cert.GuardedIdeal.τ).loc Cert.GuardedIdeal.main_arg4) = m' ((c.tc : Thread Cert.GuardedIdeal.nD Cert.GuardedIdeal.τ).loc Cert.GuardedIdeal.main_arg4)
          ∧ r.2.mem ((c.tc : Thread Cert.GuardedIdeal.nD Cert.GuardedIdeal.τ).loc Cert.GuardedIdeal.main_arg5) = m' ((c.tc : Thread Cert.GuardedIdeal.nD Cert.GuardedIdeal.τ).loc Cert.GuardedIdeal.main_arg5)
          ∧ r.2.mem ((c.tc : Thread Cert.GuardedIdeal.nD Cert.GuardedIdeal.τ).loc Cert.GuardedIdeal.main_arg6) = m' ((c.tc : Thread Cert.GuardedIdeal.nD Cert.GuardedIdeal.τ).loc Cert.GuardedIdeal.main_arg6)
          ∧ r.2.mem ((c.tc : Thread Cert.GuardedIdeal.nD Cert.GuardedIdeal.τ).loc Cert.GuardedIdeal.main_arg7) = m' ((c.tc : Thread Cert.GuardedIdeal.nD Cert.GuardedIdeal.τ).loc Cert.GuardedIdeal.main_arg7)
          ∧ r.2.mem ((c.tc : Thread Cert.GuardedIdeal.nD Cert.GuardedIdeal.τ).loc Cert.GuardedIdeal.main_arg8) = m' ((c.tc : Thread Cert.GuardedIdeal.nD Cert.GuardedIdeal.τ).loc Cert.GuardedIdeal.main_arg8)
          ∧ r.2.mem ((c.tc : Thread Cert.GuardedIdeal.nD Cert.GuardedIdeal.τ).loc Cert.GuardedIdeal.main_arg9) = m' ((c.tc : Thread Cert.GuardedIdeal.nD Cert.GuardedIdeal.τ).loc Cert.GuardedIdeal.main_arg9))

def holds_KernelIdeal_near_reference_pre_inputs_valid [hKernelIdeal : Cert.KernelIdeal.Facts] [hPre_inputs_valid : Cert.Pre_inputs_valid.Facts] [hPost_near_reference : Cert.Post_near_reference.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_valid m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ (Cert.Post_near_reference.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (r.2.mem ((c.tc : Thread Cert.KernelIdeal.nD Cert.KernelIdeal.τ).loc Cert.KernelIdeal.main_v26_0)) (r.2.mem ((c.tc : Thread Cert.KernelIdeal.nD Cert.KernelIdeal.τ).loc Cert.KernelIdeal.main_v29)) (r.2.mem ((c.tc : Thread Cert.KernelIdeal.nD Cert.KernelIdeal.τ).loc Cert.KernelIdeal.main_arg6)) (r.2.mem ((c.tc : Thread Cert.KernelIdeal.nD Cert.KernelIdeal.τ).loc Cert.KernelIdeal.main_v27)) (r.2.mem ((c.tc : Thread Cert.KernelIdeal.nD Cert.KernelIdeal.τ).loc Cert.KernelIdeal.main_v26_2))).1 = (fun _ => 1#1)
      ∧ (Cert.Post_near_reference.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (r.2.mem ((c.tc : Thread Cert.KernelIdeal.nD Cert.KernelIdeal.τ).loc Cert.KernelIdeal.main_v26_0)) (r.2.mem ((c.tc : Thread Cert.KernelIdeal.nD Cert.KernelIdeal.τ).loc Cert.KernelIdeal.main_v29)) (r.2.mem ((c.tc : Thread Cert.KernelIdeal.nD Cert.KernelIdeal.τ).loc Cert.KernelIdeal.main_arg6)) (r.2.mem ((c.tc : Thread Cert.KernelIdeal.nD Cert.KernelIdeal.τ).loc Cert.KernelIdeal.main_v27)) (r.2.mem ((c.tc : Thread Cert.KernelIdeal.nD Cert.KernelIdeal.τ).loc Cert.KernelIdeal.main_v26_2))).2.1 = (fun _ => 1#1)
      ∧ (Cert.Post_near_reference.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (r.2.mem ((c.tc : Thread Cert.KernelIdeal.nD Cert.KernelIdeal.τ).loc Cert.KernelIdeal.main_v26_0)) (r.2.mem ((c.tc : Thread Cert.KernelIdeal.nD Cert.KernelIdeal.τ).loc Cert.KernelIdeal.main_v29)) (r.2.mem ((c.tc : Thread Cert.KernelIdeal.nD Cert.KernelIdeal.τ).loc Cert.KernelIdeal.main_arg6)) (r.2.mem ((c.tc : Thread Cert.KernelIdeal.nD Cert.KernelIdeal.τ).loc Cert.KernelIdeal.main_v27)) (r.2.mem ((c.tc : Thread Cert.KernelIdeal.nD Cert.KernelIdeal.τ).loc Cert.KernelIdeal.main_v26_2))).2.2 = (fun _ => 1#1))

def Claim : Prop :=
  ∃ (hKernel : Cert.Kernel.Facts) (hKernelIdeal : Cert.KernelIdeal.Facts) (hReferenceIdeal : Cert.ReferenceIdeal.Facts) (hGuardedIdeal : Cert.GuardedIdeal.Facts) (hPre_segments_valid : Cert.Pre_segments_valid.Facts) (hPre_inputs_valid : Cert.Pre_inputs_valid.Facts) (hPost_near_reference : Cert.Post_near_reference.Facts) (hOn_but_entropy : Cert.On_but_entropy.Facts),
    quiescent_Kernel (hKernel := hKernel)
    ∧ quiescent_KernelIdeal (hKernelIdeal := hKernelIdeal)
    ∧ quiescent_KernelIdeal_pre_segments_valid (hKernelIdeal := hKernelIdeal) (hPre_segments_valid := hPre_segments_valid)
    ∧ quiescent_KernelIdeal_pre_inputs_valid (hKernelIdeal := hKernelIdeal) (hPre_inputs_valid := hPre_inputs_valid)
    ∧ quiescent_ReferenceIdeal (hReferenceIdeal := hReferenceIdeal)
    ∧ quiescent_ReferenceIdeal_pre_segments_valid (hReferenceIdeal := hReferenceIdeal) (hPre_segments_valid := hPre_segments_valid)
    ∧ quiescent_GuardedIdeal (hGuardedIdeal := hGuardedIdeal)
    ∧ quiescent_GuardedIdeal_pre_inputs_valid (hGuardedIdeal := hGuardedIdeal) (hPre_inputs_valid := hPre_inputs_valid)
    ∧ preserves_Kernel_KernelIdeal
    ∧ algebraic_KernelIdeal_ReferenceIdeal_on_but_entropy_pre_segments_valid (hKernelIdeal := hKernelIdeal) (hReferenceIdeal := hReferenceIdeal) (hPre_segments_valid := hPre_segments_valid) (hOn_but_entropy := hOn_but_entropy)
    ∧ algebraic_KernelIdeal_GuardedIdeal_pre_inputs_valid (hKernelIdeal := hKernelIdeal) (hGuardedIdeal := hGuardedIdeal) (hPre_inputs_valid := hPre_inputs_valid)
    ∧ holds_KernelIdeal_near_reference_pre_inputs_valid (hKernelIdeal := hKernelIdeal) (hPre_inputs_valid := hPre_inputs_valid) (hPost_near_reference := hPost_near_reference)
-- ==== On_but_entropy.lean ====
abbrev S16384x512 : Shape := ⟨2, ![16384, 512]⟩
abbrev S16384 : Shape := ⟨1, ![16384]⟩
abbrev S64x2 : Shape := ⟨2, ![64, 2]⟩
abbrev S16384x3 : Shape := ⟨2, ![16384, 3]⟩
abbrev S_ : Shape := ⟨0, ![]⟩
abbrev S64 : Shape := ⟨1, ![64]⟩
abbrev S32x32 : Shape := ⟨2, ![32, 32]⟩
abbrev S256x552 : Shape := ⟨2, ![256, 552]⟩
abbrev S256 : Shape := ⟨1, ![256]⟩
abbrev S64x8 : Shape := ⟨2, ![64, 8]⟩
abbrev S64x256 : Shape := ⟨2, ![64, 256]⟩

class Facts : Prop where
  bcast_S_S64x256 : S_.BroadcastsInDim S64x256 (![] : Fin 0 → Fin S64x256.rank)
  bcast_S_S64 : S_.BroadcastsInDim S64 (![] : Fin 0 → Fin S64.rank)
  bcast_S_S64x8 : S_.BroadcastsInDim S64x8 (![] : Fin 0 → Fin S64x8.rank)

variable [Facts]

def fn {F : FTy → Type} [FloatOps F] (main_arg0 : FVec F S16384x512 .f32) (main_arg1 : FVec F S16384 .f32) (main_arg2 : IVec S64x2 32) (main_arg3 : FVec F S16384 .f32) (main_arg4 : FVec F S16384x3 .f32) (main_arg5 : IVec S_ 32) (main_arg6 : IVec S64 32) (main_arg7 : FVec F S32x32 .f32) (main_arg8 : FVec F S256x552 .f32) (main_arg9 : FVec F S256 .f32) : IVec S64x256 1 × IVec S64 1 × IVec S64 1 × IVec S64 1 × IVec S64x8 1 :=
  let main_v0 : IVec S64x8 32 := iotaInDim S64x8 32 1
  let main_c : IVec S_ 1 := constantI S_ 1 0#1
  let main_v1 : IVec S64x256 1 := broadcastInDim S64x256 ![] bcast_S_S64x256 main_c
  let main_c_0 : IVec S_ 1 := constantI S_ 1 1#1
  let main_v2 : IVec S64 1 := broadcastInDim S64 ![] bcast_S_S64 main_c_0
  let main_c_1 : IVec S_ 1 := constantI S_ 1 1#1
  let main_v3 : IVec S64 1 := broadcastInDim S64 ![] bcast_S_S64 main_c_1
  let main_c_2 : IVec S_ 1 := constantI S_ 1 1#1
  let main_v4 : IVec S64 1 := broadcastInDim S64 ![] bcast_S_S64 main_c_2
  let main_c_3 : IVec S_ 32 := constantI S_ 32 4#32
  let main_v5 : IVec S64x8 32 := broadcastInDim S64x8 ![] bcast_S_S64x8 main_c_3
  let main_v6 : IVec S64x8 1 := cmpi .ne main_v0 main_v5
  (main_v1, main_v2, main_v3, main_v4, main_v6)
-- ==== Post_near_reference.lean ====
abbrev S16384x512 : Shape := ⟨2, ![16384, 512]⟩
abbrev S16384 : Shape := ⟨1, ![16384]⟩
abbrev S64x2 : Shape := ⟨2, ![64, 2]⟩
abbrev S16384x3 : Shape := ⟨2, ![16384, 3]⟩
abbrev S_ : Shape := ⟨0, ![]⟩
abbrev S64 : Shape := ⟨1, ![64]⟩
abbrev S32x32 : Shape := ⟨2, ![32, 32]⟩
abbrev S256x552 : Shape := ⟨2, ![256, 552]⟩
abbrev S256 : Shape := ⟨1, ![256]⟩
abbrev S64x256 : Shape := ⟨2, ![64, 256]⟩
abbrev S64x8 : Shape := ⟨2, ![64, 8]⟩
abbrev S64x1 : Shape := ⟨2, ![64, 1]⟩
abbrev S1x16384 : Shape := ⟨2, ![1, 16384]⟩
abbrev S64x16384 : Shape := ⟨2, ![64, 16384]⟩
abbrev S64x512 : Shape := ⟨2, ![64, 512]⟩
abbrev S1 : Shape := ⟨1, ![1]⟩
abbrev S1x1 : Shape := ⟨2, ![1, 1]⟩
abbrev S64x32 : Shape := ⟨2, ![64, 32]⟩
abbrev S64x552 : Shape := ⟨2, ![64, 552]⟩
abbrev S552x256 : Shape := ⟨2, ![552, 256]⟩
abbrev S1x256 : Shape := ⟨2, ![1, 256]⟩

class Facts : Prop where
  slices_S64x2_S64x1_0_0 : S64x2.Slices ![0, 0] S64x1
  shapeCasts_S64x1_S64 : S64x1.ShapeCasts S64
  slices_S64x2_S64x1_0_1 : S64x2.Slices ![0, 1] S64x1
  bcast_S16384_S1x16384_1 : S16384.BroadcastsInDim S1x16384 (![1] : Fin 1 → Fin S1x16384.rank)
  bcast_S64_S64x1_0 : S64.BroadcastsInDim S64x1 (![0] : Fin 1 → Fin S64x1.rank)
  bcast_S1x16384_S64x16384_0_1 : S1x16384.BroadcastsInDim S64x16384 (![0, 1] : Fin 2 → Fin S64x16384.rank)
  bcast_S64x1_S64x16384_0_1 : S64x1.BroadcastsInDim S64x16384 (![0, 1] : Fin 2 → Fin S64x16384.rank)
  reducesTo_S64x16384_S64_d1 : S64x16384.ReducesTo [1] S64
  h_S_ : 0 < S_.numel
  bcast_S_S64 : S_.BroadcastsInDim S64 (![] : Fin 0 → Fin S64.rank)
  bcast_S64x1_S64x512_0_1 : S64x1.BroadcastsInDim S64x512 (![0, 1] : Fin 2 → Fin S64x512.rank)
  bcast_S_S64x1 : S_.BroadcastsInDim S64x1 (![] : Fin 0 → Fin S64x1.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  reducesTo_S64x1_S64_d1 : S64x1.ReducesTo [1] S64
  bcast_S64_S64x32_0 : S64.BroadcastsInDim S64x32 (![0] : Fin 1 → Fin S64x32.rank)
  bcast_S_S64x32 : S_.BroadcastsInDim S64x32 (![] : Fin 0 → Fin S64x32.rank)
  concatenates_S64x512_S64x8_S64x32_S64x552_d1 : Shape.Concatenates [S64x512, S64x8, S64x32] S64x552 1
  bcast_S_S64x16384 : S_.BroadcastsInDim S64x16384 (![] : Fin 0 → Fin S64x16384.rank)
  transposes_S256x552_S552x256_1_0 : S256x552.Transposes [1, 0] S552x256
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  slices_S64x8_S64x1_0_4 : S64x8.Slices ![0, 4] S64x1
  dot_S64x16384_S16384x512_S64x512_1_0_0_1_n_n_wf : DotDims.WF S64x16384 S16384x512 S64x512 [1] [0] [0] [1] [] []
  gather_S32x32_S64x1_S64x32_1_0_n_n_0_1_132_wf : GatherDims.WF S32x32 S64x1 S64x32 [1] [0] [] [0] [] 1 ![1, 32]
  dot_S64x16384_S16384_S64_1_0_0_n_n_n_wf : DotDims.WF S64x16384 S16384 S64 [1] [0] [0] [] [] []
  dot_S64x552_S552x256_S64x256_1_0_0_1_n_n_wf : DotDims.WF S64x552 S552x256 S64x256 [1] [0] [0] [1] [] []

variable [Facts]

def dot_S64x16384_S16384x512_S64x512_1_0_0_1_n_n : DotDims S64x16384 S16384x512 S64x512 where
  lhsContracting := [1]
  rhsContracting := [0]
  lhsNonContracting := [0]
  rhsNonContracting := [1]
  lhsBatch := []
  rhsBatch := []
  wf := dot_S64x16384_S16384x512_S64x512_1_0_0_1_n_n_wf
def gather_S32x32_S64x1_S64x32_1_0_n_n_0_1_132 : GatherDims S32x32 S64x1 S64x32 where
  offsetDims := [1]
  collapsedSliceDims := [0]
  operandBatchingDims := []
  startIndicesBatchingDims := []
  startIndexMap := [0]
  indexVectorDim := 1
  sliceSizes := ![1, 32]
  wf := gather_S32x32_S64x1_S64x32_1_0_n_n_0_1_132_wf
def dot_S64x16384_S16384_S64_1_0_0_n_n_n : DotDims S64x16384 S16384 S64 where
  lhsContracting := [1]
  rhsContracting := [0]
  lhsNonContracting := [0]
  rhsNonContracting := []
  lhsBatch := []
  rhsBatch := []
  wf := dot_S64x16384_S16384_S64_1_0_0_n_n_n_wf
def dot_S64x552_S552x256_S64x256_1_0_0_1_n_n : DotDims S64x552 S552x256 S64x256 where
  lhsContracting := [1]
  rhsContracting := [0]
  lhsNonContracting := [0]
  rhsNonContracting := [1]
  lhsBatch := []
  rhsBatch := []
  wf := dot_S64x552_S552x256_S64x256_1_0_0_1_n_n_wf
def fn_where {F : FTy → Type} [FloatOps F] (arg0 : IVec S64 1) (arg1 : IVec S64 32) (arg2 : IVec S64 32) : IVec S64 32 :=
  let v0 : IVec S64 32 := select arg0 arg1 arg2
  v0

def fn_take {F : FTy → Type} [FloatOps F] (arg0 : FVec F S32x32 .f32) (arg1 : IVec S64 32) : FVec F S64x32 .f32 :=
  let c : IVec S_ 32 := constantI S_ 32 0#32
  let v0 : IVec S64 32 := broadcastInDim S64 ![] bcast_S_S64 c
  let v1 : IVec S64 1 := cmpi .slt arg1 v0
  let c_0 : IVec S_ 32 := constantI S_ 32 32#32
  let v2 : IVec S64 32 := broadcastInDim S64 ![] bcast_S_S64 c_0
  let v3 : IVec S64 32 := addi arg1 v2
  let v4 : IVec S64 32 := fn_where (F := F) v1 v3 arg1
  let v5 : IVec S64x1 32 := broadcastInDim S64x1 ![0] bcast_S64_S64x1_0 v4
  let c_1 : IVec S1 32 := constantI S1 32 31#32
  let c_2 : IVec S_ 32 := constantI S_ 32 0#32
  let v6 : IVec S64x1 32 := broadcastInDim S64x1 ![] bcast_S_S64x1 c_2
  let v7 : IVec S64x1 1 := cmpi .sge v5 v6
  let v8 : IVec S1x1 32 := broadcastInDim S1x1 ![1] bcast_S1_S1x1_1 c_1
  let v9 : IVec S64x1 32 := broadcastInDim S64x1 ![0, 1] bcast_S1x1_S64x1_0_1 v8
  let v10 : IVec S64x1 1 := cmpi .sle v5 v9
  let v11 : IVec S64x1 1 := andi v7 v10
  let c_3 : IVec S_ 1 := constantI S_ 1 1#1
  let v12 : IVec S64 1 := (fun x v => Host.reduce IntOp.andi x v reducesTo_S64x1_S64_d1 h_S_) v11 c_3
  let v13 : FVec F S64x32 .f32 := (fun x i => Host.gather gather_S32x32_S64x1_S64x32_1_0_n_n_0_1_132 x i) arg0 v5
  let v14 : IVec S64x32 1 := broadcastInDim S64x32 ![0] bcast_S64_S64x32_0 v12
  let cst : FVec F S_ .f32 := constant S_ .f32 0x7FC00000#32
  let v15 : FVec F S64x32 .f32 := broadcastInDim S64x32 ![] bcast_S_S64x32 cst
  let v16 : FVec F S64x32 .f32 := select v14 v13 v15
  v16

def fn_part2 {F : FTy → Type} [FloatOps F] (main_arg8 : FVec F S256x552 .f32) (main_arg9 : FVec F S256 .f32) (main_arg10 : FVec F S64x256 .f32) (main_arg14 : FVec F S64x8 .f32) (main_v25 : FVec F S64x552 .f32) (main_v41 : FVec F S64 .f32) (main_v42 : IVec S64 32) : IVec S64x256 1 × IVec S64 1 × IVec S64 1 :=
  let main_v43 : FVec F S64 .f32 := sitofp .f32 main_v42
  let main_cst_4 : FVec F S_ .f32 := constant S_ .f32 0x358637BD#32
  let main_v44 : FVec F S64 .f32 := broadcastInDim S64 ![] bcast_S_S64 main_cst_4
  let main_v45 : FVec F S64 .f32 := mulf main_v44 main_v43
  let main_v46 : FVec F S552x256 .f32 := (transpose S552x256 [1, 0] · transposes_S256x552_S552x256_1_0) main_arg8
  let main_v47 : FVec F S64x256 .f32 := (fun l r => Host.dotGeneral dot_S64x552_S552x256_S64x256_1_0_0_1_n_n none l r) main_v25 main_v46
  let main_v48 : FVec F S1x256 .f32 := broadcastInDim S1x256 ![1] bcast_S256_S1x256_1 main_arg9
  let main_v49 : FVec F S64x256 .f32 := broadcastInDim S64x256 ![0, 1] bcast_S1x256_S64x256_0_1 main_v48
  let main_v50 : FVec F S64x256 .f32 := addf main_v47 main_v49
  let main_v51 : IVec S64x256 1 := cmpf .oeq main_arg10 main_v50
  let main_v52 : FVec F S64 .f32 := Host.log1p main_v41
  let main_v53 : FVec F S64x1 .f32 := (extractStridedSlice S64x1 ![0, 4] · slices_S64x8_S64x1_0_4) main_arg14
  let main_v54 : FVec F S64 .f32 := shapeCast S64 main_v53 shapeCasts_S64x1_S64
  let main_v55 : IVec S64 1 := cmpf .ole main_v52 main_v54
  let main_v56 : FVec F S64x1 .f32 := (extractStridedSlice S64x1 ![0, 4] · slices_S64x8_S64x1_0_4) main_arg14
  let main_v57 : FVec F S64 .f32 := shapeCast S64 main_v56 shapeCasts_S64x1_S64
  let main_v58 : FVec F S64 .f32 := addf main_v41 main_v45
  let main_v59 : FVec F S64 .f32 := Host.log1p main_v58
  let main_v60 : IVec S64 1 := cmpf .ole main_v57 main_v59
  (main_v51, main_v55, main_v60)

def fn_part1 {F : FTy → Type} [FloatOps F] (main_arg1 : FVec F S16384 .f32) (main_arg6 : IVec S64 32) (main_arg7 : FVec F S32x32 .f32) (main_arg8 : FVec F S256x552 .f32) (main_arg9 : FVec F S256 .f32) (main_arg10 : FVec F S64x256 .f32) (main_arg14 : FVec F S64x8 .f32) (main_v2 : IVec S64 32) (main_v4 : IVec S64 32) (main_v16 : FVec F S64x16384 .f32) (main_v20 : FVec F S64x512 .f32) (main_v21 : FVec F S64x1 .f32) : IVec S64x256 1 × IVec S64 1 × IVec S64 1 :=
  let main_v22 : FVec F S64x512 .f32 := broadcastInDim S64x512 ![0, 1] bcast_S64x1_S64x512_0_1 main_v21
  let main_v23 : FVec F S64x512 .f32 := Host.divf main_v20 main_v22
  let main_v24 : FVec F S64x32 .f32 := fn_take (F := F) main_arg7 main_arg6
  let main_v25 : FVec F S64x552 .f32 := concatenate S64x552 1 [⟨S64x512, main_v23⟩, ⟨S64x8, main_arg14⟩, ⟨S64x32, main_v24⟩] concatenates_S64x512_S64x8_S64x32_S64x552_d1
  let main_v26 : FVec F S64 .f32 := (fun l r => Host.dotGeneral dot_S64x16384_S16384_S64_1_0_0_n_n_n none l r) main_v16 main_arg1
  let main_v27 : FVec F S1x16384 .f32 := broadcastInDim S1x16384 ![1] bcast_S16384_S1x16384_1 main_arg1
  let main_v28 : FVec F S64x16384 .f32 := broadcastInDim S64x16384 ![0, 1] bcast_S1x16384_S64x16384_0_1 main_v27
  let main_v29 : FVec F S64x16384 .f32 := mulf main_v28 main_v16
  let main_v30 : FVec F S64x1 .f32 := broadcastInDim S64x1 ![0] bcast_S64_S64x1_0 main_v26
  let main_cst_1 : FVec F S_ .f32 := constant S_ .f32 0x358637BD#32
  let main_v31 : FVec F S64x1 .f32 := broadcastInDim S64x1 ![] bcast_S_S64x1 main_cst_1
  let main_v32 : FVec F S64x1 .f32 := addf main_v30 main_v31
  let main_v33 : FVec F S64x16384 .f32 := broadcastInDim S64x16384 ![0, 1] bcast_S64x1_S64x16384_0_1 main_v32
  let main_v34 : FVec F S64x16384 .f32 := Host.divf main_v29 main_v33
  let main_v35 : FVec F S64x16384 .f32 := mulf main_v16 main_v34
  let main_cst_2 : FVec F S_ .f32 := constant S_ .f32 0x358637BD#32
  let main_v36 : FVec F S64x16384 .f32 := broadcastInDim S64x16384 ![] bcast_S_S64x16384 main_cst_2
  let main_v37 : FVec F S64x16384 .f32 := addf main_v34 main_v36
  let main_v38 : FVec F S64x16384 .f32 := Host.log main_v37
  let main_v39 : FVec F S64x16384 .f32 := mulf main_v35 main_v38
  let main_cst_3 : FVec F S_ .f32 := constant S_ .f32 0x00000000#32
  let main_v40 : FVec F S64 .f32 := (fun x v => Host.reduceAdd x v reducesTo_S64x16384_S64_d1 h_S_) main_v39 main_cst_3
  let main_v41 : FVec F S64 .f32 := Host.negf main_v40
  let main_v42 : IVec S64 32 := subi main_v4 main_v2
  fn_part2 (F := F) main_arg8 main_arg9 main_arg10 main_arg14 main_v25 main_v41 main_v42

def fn {F : FTy → Type} [FloatOps F] (main_arg0 : FVec F S16384x512 .f32) (main_arg1 : FVec F S16384 .f32) (main_arg2 : IVec S64x2 32) (main_arg3 : FVec F S16384 .f32) (main_arg4 : FVec F S16384x3 .f32) (main_arg5 : IVec S_ 32) (main_arg6 : IVec S64 32) (main_arg7 : FVec F S32x32 .f32) (main_arg8 : FVec F S256x552 .f32) (main_arg9 : FVec F S256 .f32) (main_arg10 : FVec F S64x256 .f32) (main_arg11 : IVec S64 1) (main_arg12 : IVec S64 32) (main_arg13 : FVec F S64 .f32) (main_arg14 : FVec F S64x8 .f32) : IVec S64x256 1 × IVec S64 1 × IVec S64 1 :=
  let main_v0 : IVec S16384 32 := iotaInDim S16384 32 0
  let main_v1 : IVec S64x1 32 := (extractStridedSlice S64x1 ![0, 0] · slices_S64x2_S64x1_0_0) main_arg2
  let main_v2 : IVec S64 32 := shapeCast S64 main_v1 shapeCasts_S64x1_S64
  let main_v3 : IVec S64x1 32 := (extractStridedSlice S64x1 ![0, 1] · slices_S64x2_S64x1_0_1) main_arg2
  let main_v4 : IVec S64 32 := shapeCast S64 main_v3 shapeCasts_S64x1_S64
  let main_v5 : IVec S1x16384 32 := broadcastInDim S1x16384 ![1] bcast_S16384_S1x16384_1 main_v0
  let main_v6 : IVec S64x1 32 := broadcastInDim S64x1 ![0] bcast_S64_S64x1_0 main_v2
  let main_v7 : IVec S64x16384 32 := broadcastInDim S64x16384 ![0, 1] bcast_S1x16384_S64x16384_0_1 main_v5
  let main_v8 : IVec S64x16384 32 := broadcastInDim S64x16384 ![0, 1] bcast_S64x1_S64x16384_0_1 main_v6
  let main_v9 : IVec S64x16384 1 := cmpi .sge main_v7 main_v8
  let main_v10 : IVec S1x16384 32 := broadcastInDim S1x16384 ![1] bcast_S16384_S1x16384_1 main_v0
  let main_v11 : IVec S64x1 32 := broadcastInDim S64x1 ![0] bcast_S64_S64x1_0 main_v4
  let main_v12 : IVec S64x16384 32 := broadcastInDim S64x16384 ![0, 1] bcast_S1x16384_S64x16384_0_1 main_v10
  let main_v13 : IVec S64x16384 32 := broadcastInDim S64x16384 ![0, 1] bcast_S64x1_S64x16384_0_1 main_v11
  let main_v14 : IVec S64x16384 1 := cmpi .slt main_v12 main_v13
  let main_v15 : IVec S64x16384 1 := andi main_v9 main_v14
  let main_v16 : FVec F S64x16384 .f32 := uitofp .f32 main_v15
  let main_cst : FVec F S_ .f32 := constant S_ .f32 0x00000000#32
  let main_v17 : FVec F S64 .f32 := (fun x v => Host.reduceAdd x v reducesTo_S64x16384_S64_d1 h_S_) main_v16 main_cst
  let main_cst_0 : FVec F S_ .f32 := constant S_ .f32 0x3F800000#32
  let main_v18 : FVec F S64 .f32 := broadcastInDim S64 ![] bcast_S_S64 main_cst_0
  let main_v19 : FVec F S64 .f32 := maximumf main_v17 main_v18
  let main_v20 : FVec F S64x512 .f32 := (fun l r => Host.dotGeneral dot_S64x16384_S16384x512_S64x512_1_0_0_1_n_n none l r) main_v16 main_arg0
  let main_v21 : FVec F S64x1 .f32 := broadcastInDim S64x1 ![0] bcast_S64_S64x1_0 main_v19
  fn_part1 (F := F) main_arg1 main_arg6 main_arg7 main_arg8 main_arg9 main_arg10 main_arg14 main_v2 main_v4 main_v16 main_v20 main_v21
-- ==== Pre_inputs_valid.lean ====
abbrev S16384x512 : Shape := ⟨2, ![16384, 512]⟩
abbrev S16384 : Shape := ⟨1, ![16384]⟩
abbrev S64x2 : Shape := ⟨2, ![64, 2]⟩
abbrev S16384x3 : Shape := ⟨2, ![16384, 3]⟩
abbrev S_ : Shape := ⟨0, ![]⟩
abbrev S64 : Shape := ⟨1, ![64]⟩
abbrev S32x32 : Shape := ⟨2, ![32, 32]⟩
abbrev S256x552 : Shape := ⟨2, ![256, 552]⟩
abbrev S256 : Shape := ⟨1, ![256]⟩
abbrev S64x1 : Shape := ⟨2, ![64, 1]⟩

class Facts : Prop where
  slices_S64x2_S64x1_0_0 : S64x2.Slices ![0, 0] S64x1
  shapeCasts_S64x1_S64 : S64x1.ShapeCasts S64
  slices_S64x2_S64x1_0_1 : S64x2.Slices ![0, 1] S64x1
  bcast_S_S64 : S_.BroadcastsInDim S64 (![] : Fin 0 → Fin S64.rank)
  bcast_S_S16384 : S_.BroadcastsInDim S16384 (![] : Fin 0 → Fin S16384.rank)

variable [Facts]

def fn_part1 {F : FTy → Type} [FloatOps F] (main_arg1 : FVec F S16384 .f32) (main_v16 : IVec S64 1) (main_v18 : IVec S16384 1) : IVec S64 1 × IVec S16384 1 :=
  let main_cst_3 : FVec F S_ .f32 := constant S_ .f32 0x7F800000#32
  let main_v19 : FVec F S16384 .f32 := broadcastInDim S16384 ![] bcast_S_S16384 main_cst_3
  let main_v20 : IVec S16384 1 := cmpf .olt main_arg1 main_v19
  let main_v21 : IVec S16384 1 := andi main_v18 main_v20
  (main_v16, main_v21)

def fn {F : FTy → Type} [FloatOps F] (main_arg0 : FVec F S16384x512 .f32) (main_arg1 : FVec F S16384 .f32) (main_arg2 : IVec S64x2 32) (main_arg3 : FVec F S16384 .f32) (main_arg4 : FVec F S16384x3 .f32) (main_arg5 : IVec S_ 32) (main_arg6 : IVec S64 32) (main_arg7 : FVec F S32x32 .f32) (main_arg8 : FVec F S256x552 .f32) (main_arg9 : FVec F S256 .f32) : IVec S64 1 × IVec S16384 1 :=
  let main_v0 : IVec S64x1 32 := (extractStridedSlice S64x1 ![0, 0] · slices_S64x2_S64x1_0_0) main_arg2
  let main_v1 : IVec S64 32 := shapeCast S64 main_v0 shapeCasts_S64x1_S64
  let main_v2 : IVec S64x1 32 := (extractStridedSlice S64x1 ![0, 1] · slices_S64x2_S64x1_0_1) main_arg2
  let main_v3 : IVec S64 32 := shapeCast S64 main_v2 shapeCasts_S64x1_S64
  let main_c : IVec S_ 32 := constantI S_ 32 0#32
  let main_v4 : IVec S64 32 := broadcastInDim S64 ![] bcast_S_S64 main_c
  let main_v5 : IVec S64 1 := cmpi .sge main_v1 main_v4
  let main_v6 : IVec S64 1 := cmpi .slt main_v1 main_v3
  let main_v7 : IVec S64 1 := andi main_v5 main_v6
  let main_c_0 : IVec S_ 32 := constantI S_ 32 16384#32
  let main_v8 : IVec S64 32 := broadcastInDim S64 ![] bcast_S_S64 main_c_0
  let main_v9 : IVec S64 1 := cmpi .sle main_v3 main_v8
  let main_v10 : IVec S64 1 := andi main_v7 main_v9
  let main_c_1 : IVec S_ 32 := constantI S_ 32 0#32
  let main_v11 : IVec S64 32 := broadcastInDim S64 ![] bcast_S_S64 main_c_1
  let main_v12 : IVec S64 1 := cmpi .sge main_arg6 main_v11
  let main_v13 : IVec S64 1 := andi main_v10 main_v12
  let main_c_2 : IVec S_ 32 := constantI S_ 32 32#32
  let main_v14 : IVec S64 32 := broadcastInDim S64 ![] bcast_S_S64 main_c_2
  let main_v15 : IVec S64 1 := cmpi .slt main_arg6 main_v14
  let main_v16 : IVec S64 1 := andi main_v13 main_v15
  let main_cst : FVec F S_ .f32 := constant S_ .f32 0x00000000#32
  let main_v17 : FVec F S16384 .f32 := broadcastInDim S16384 ![] bcast_S_S16384 main_cst
  let main_v18 : IVec S16384 1 := cmpf .oge main_arg1 main_v17
  fn_part1 (F := F) main_arg1 main_v16 main_v18
-- ==== Pre_segments_valid.lean ====
abbrev S16384x512 : Shape := ⟨2, ![16384, 512]⟩
abbrev S16384 : Shape := ⟨1, ![16384]⟩
abbrev S64x2 : Shape := ⟨2, ![64, 2]⟩
abbrev S16384x3 : Shape := ⟨2, ![16384, 3]⟩
abbrev S_ : Shape := ⟨0, ![]⟩
abbrev S64 : Shape := ⟨1, ![64]⟩
abbrev S32x32 : Shape := ⟨2, ![32, 32]⟩
abbrev S256x552 : Shape := ⟨2, ![256, 552]⟩
abbrev S256 : Shape := ⟨1, ![256]⟩
abbrev S64x1 : Shape := ⟨2, ![64, 1]⟩

class Facts : Prop where
  slices_S64x2_S64x1_0_0 : S64x2.Slices ![0, 0] S64x1
  shapeCasts_S64x1_S64 : S64x1.ShapeCasts S64
  slices_S64x2_S64x1_0_1 : S64x2.Slices ![0, 1] S64x1
  bcast_S_S64 : S_.BroadcastsInDim S64 (![] : Fin 0 → Fin S64.rank)

variable [Facts]

def fn {F : FTy → Type} [FloatOps F] (main_arg0 : FVec F S16384x512 .f32) (main_arg1 : FVec F S16384 .f32) (main_arg2 : IVec S64x2 32) (main_arg3 : FVec F S16384 .f32) (main_arg4 : FVec F S16384x3 .f32) (main_arg5 : IVec S_ 32) (main_arg6 : IVec S64 32) (main_arg7 : FVec F S32x32 .f32) (main_arg8 : FVec F S256x552 .f32) (main_arg9 : FVec F S256 .f32) : IVec S64 1 :=
  let main_v0 : IVec S64x1 32 := (extractStridedSlice S64x1 ![0, 0] · slices_S64x2_S64x1_0_0) main_arg2
  let main_v1 : IVec S64 32 := shapeCast S64 main_v0 shapeCasts_S64x1_S64
  let main_v2 : IVec S64x1 32 := (extractStridedSlice S64x1 ![0, 1] · slices_S64x2_S64x1_0_1) main_arg2
  let main_v3 : IVec S64 32 := shapeCast S64 main_v2 shapeCasts_S64x1_S64
  let main_c : IVec S_ 32 := constantI S_ 32 0#32
  let main_v4 : IVec S64 32 := broadcastInDim S64 ![] bcast_S_S64 main_c
  let main_v5 : IVec S64 1 := cmpi .sge main_v1 main_v4
  let main_v6 : IVec S64 1 := cmpi .slt main_v1 main_v3
  let main_v7 : IVec S64 1 := andi main_v5 main_v6
  let main_c_0 : IVec S_ 32 := constantI S_ 32 16384#32
  let main_v8 : IVec S64 32 := broadcastInDim S64 ![] bcast_S_S64 main_c_0
  let main_v9 : IVec S64 1 := cmpi .sle main_v3 main_v8
  let main_v10 : IVec S64 1 := andi main_v7 main_v9
  main_v10
-- ==== Kernel.lean ====
abbrev S16384x512 : Shape := ⟨2, ![16384, 512]⟩
abbrev S16384 : Shape := ⟨1, ![16384]⟩
abbrev S64x2 : Shape := ⟨2, ![64, 2]⟩
abbrev S16384x3 : Shape := ⟨2, ![16384, 3]⟩
abbrev S_ : Shape := ⟨0, ![]⟩
abbrev S64 : Shape := ⟨1, ![64]⟩
abbrev S32x32 : Shape := ⟨2, ![32, 32]⟩
abbrev S256x552 : Shape := ⟨2, ![256, 552]⟩
abbrev S256 : Shape := ⟨1, ![256]⟩
abbrev S64x1 : Shape := ⟨2, ![64, 1]⟩
abbrev S1x16384 : Shape := ⟨2, ![1, 16384]⟩
abbrev S3x16384 : Shape := ⟨2, ![3, 16384]⟩
abbrev S5x16384 : Shape := ⟨2, ![5, 16384]⟩
abbrev S256x512 : Shape := ⟨2, ![256, 512]⟩
abbrev S256x8 : Shape := ⟨2, ![256, 8]⟩
abbrev S256x32 : Shape := ⟨2, ![256, 32]⟩
abbrev S1x256 : Shape := ⟨2, ![1, 256]⟩
abbrev S64x256 : Shape := ⟨2, ![64, 256]⟩
abbrev S64x8 : Shape := ⟨2, ![64, 8]⟩
abbrev S4096x512 : Shape := ⟨2, ![4096, 512]⟩
abbrev S64x512 : Shape := ⟨2, ![64, 512]⟩
abbrev S64x4096 : Shape := ⟨2, ![64, 4096]⟩
abbrev S1x4096 : Shape := ⟨2, ![1, 4096]⟩
abbrev S5x4096 : Shape := ⟨2, ![5, 4096]⟩
abbrev S2x4096 : Shape := ⟨2, ![2, 4096]⟩
abbrev S8x4096 : Shape := ⟨2, ![8, 4096]⟩
abbrev S64x3 : Shape := ⟨2, ![64, 3]⟩
abbrev S64x32 : Shape := ⟨2, ![64, 32]⟩

abbrev nBuf : Space → Nat
  | .hbm => 43
  | .vmem => 18
  | .smem => 0
  | _ => 0

abbrev bufTy : (tb : Table) → Fin (tcTables nBuf tb) → BufTy
  | .hbm, ⟨0, _⟩ => ⟨S16384x512, .f32⟩
  | .hbm, ⟨1, _⟩ => ⟨S16384, .f32⟩
  | .hbm, ⟨2, _⟩ => ⟨S64x2, .i32⟩
  | .hbm, ⟨3, _⟩ => ⟨S16384, .f32⟩
  | .hbm, ⟨4, _⟩ => ⟨S16384x3, .f32⟩
  | .hbm, ⟨5, _⟩ => ⟨S_, .i32⟩
  | .hbm, ⟨6, _⟩ => ⟨S64, .i32⟩
  | .hbm, ⟨7, _⟩ => ⟨S32x32, .f32⟩
  | .hbm, ⟨8, _⟩ => ⟨S256x552, .f32⟩
  | .hbm, ⟨9, _⟩ => ⟨S256, .f32⟩
  | .hbm, ⟨10, _⟩ => ⟨S64x1, .i32⟩
  | .hbm, ⟨11, _⟩ => ⟨S64, .i32⟩
  | .hbm, ⟨12, _⟩ => ⟨S64x1, .i32⟩
  | .hbm, ⟨13, _⟩ => ⟨S64, .i32⟩
  | .hbm, ⟨14, _⟩ => ⟨S_, .f32⟩
  | .hbm, ⟨15, _⟩ => ⟨S64, .i32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64x1, .f32⟩
  | .hbm, ⟨23, _⟩ => ⟨S64x1, .f32⟩
  | .hbm, ⟨24, _⟩ => ⟨S64x2, .f32⟩
  | .hbm, ⟨25, _⟩ => ⟨S1x16384, .f32⟩
  | .hbm, ⟨26, _⟩ => ⟨S1x16384, .f32⟩
  | .hbm, ⟨27, _⟩ => ⟨S3x16384, .f32⟩
  | .hbm, ⟨28, _⟩ => ⟨S5x16384, .f32⟩
  | .hbm, ⟨29, _⟩ => ⟨S64x1, .i32⟩
  | .hbm, ⟨30, _⟩ => ⟨S64x1, .i32⟩
  | .hbm, ⟨31, _⟩ => ⟨S64x1, .i32⟩
  | .hbm, ⟨32, _⟩ => ⟨S256x512, .f32⟩
  | .hbm, ⟨33, _⟩ => ⟨S256x8, .f32⟩
  | .hbm, ⟨34, _⟩ => ⟨S256x32, .f32⟩
  | .hbm, ⟨35, _⟩ => ⟨S1x256, .f32⟩
  | .hbm, ⟨36, _⟩ => ⟨S64x256, .f32⟩
  | .hbm, ⟨37, _⟩ => ⟨S64x1, .f32⟩
  | .hbm, ⟨38, _⟩ => ⟨S64x8, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .i1⟩
  | .local _ .vmem, ⟨0, _⟩ => ⟨S64x1, .i32⟩
  | .local _ .vmem, ⟨1, _⟩ => ⟨S64x1, .i32⟩
  | .local _ .vmem, ⟨2, _⟩ => ⟨S64x2, .f32⟩
  | .local _ .vmem, ⟨3, _⟩ => ⟨S64x1, .i32⟩
  | .local _ .vmem, ⟨4, _⟩ => ⟨S5x16384, .f32⟩
  | .local _ .vmem, ⟨5, _⟩ => ⟨S4096x512, .f32⟩
  | .local _ .vmem, ⟨6, _⟩ => ⟨S4096x512, .f32⟩
  | .local _ .vmem, ⟨7, _⟩ => ⟨S32x32, .f32⟩
  | .local _ .vmem, ⟨8, _⟩ => ⟨S256x512, .f32⟩
  | .local _ .vmem, ⟨9, _⟩ => ⟨S256x8, .f32⟩
  | .local _ .vmem, ⟨10, _⟩ => ⟨S256x32, .f32⟩
  | .local _ .vmem, ⟨11, _⟩ => ⟨S1x256, .f32⟩
  | .local _ .vmem, ⟨12, _⟩ => ⟨S64x256, .f32⟩
  | .local _ .vmem, ⟨13, _⟩ => ⟨S64x1, .f32⟩
  | .local _ .vmem, ⟨14, _⟩ => ⟨S64x8, .f32⟩
  | .local _ .vmem, ⟨15, _⟩ => ⟨S64x512, .f32⟩
  | .local _ .vmem, ⟨16, _⟩ => ⟨S64x8, .f32⟩
  | .local _ .vmem, ⟨17, _⟩ => ⟨S64x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26_0 : Ref sig .tc := ⟨.hbm, 36, rfl⟩
abbrev main_v26_1 : Ref sig .tc := ⟨.hbm, 37, rfl⟩
abbrev main_v26_2 : Ref sig .tc := ⟨.hbm, 38, rfl⟩
abbrev main_v27 : Ref sig .tc := ⟨.hbm, 39, rfl⟩
abbrev main_cst : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let c0_10 : Index := 0#32
  let arg0 : BitVec 32 := BitVec.ofNat 32 (i 0).val
  let c4096_i32 : BitVec 32 := 4096#32
  let v7 : BitVec 32 := Scalar.muli arg0 c4096_i32
  let v25 : Index := Scalar.indexCast v7
  ![0, v25.toNat]
def k0_off2 (i : grid0.Coords) : Fin 2 → Nat :=
  let c0_12 : Index := 0#32
  let arg0 : BitVec 32 := BitVec.ofNat 32 (i 0).val
  let c4096_i32 : BitVec 32 := 4096#32
  let v7 : BitVec 32 := Scalar.muli arg0 c4096_i32
  let v32 : Index := Scalar.indexCast v7
  ![0, v32.toNat]
def k0_cond2 (i : grid0.Coords) : BitVec 1 :=
  let arg0 : BitVec 32 := BitVec.ofNat 32 (i 0).val
  let c3_i32 : BitVec 32 := 3#32
  let v54 : BitVec 1 := Scalar.cmpi .eq arg0 c3_i32
  let v55 : BitVec 32 := Scalar.extui v54
  let c0_i32_25 : BitVec 32 := 0#32
  let v56 : BitVec 1 := Scalar.cmpi .ne v55 c0_i32_25
  v56

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S16384x512 : Shape := ⟨2, ![16384, 512]⟩
abbrev S16384 : Shape := ⟨1, ![16384]⟩
abbrev S64x2 : Shape := ⟨2, ![64, 2]⟩
abbrev S16384x3 : Shape := ⟨2, ![16384, 3]⟩
abbrev S_ : Shape := ⟨0, ![]⟩
abbrev S64 : Shape := ⟨1, ![64]⟩
abbrev S32x32 : Shape := ⟨2, ![32, 32]⟩
abbrev S256x552 : Shape := ⟨2, ![256, 552]⟩
abbrev S256 : Shape := ⟨1, ![256]⟩
abbrev S64x1 : Shape := ⟨2, ![64, 1]⟩
abbrev S1x16384 : Shape := ⟨2, ![1, 16384]⟩
abbrev S64x16384 : Shape := ⟨2, ![64, 16384]⟩
abbrev S64x512 : Shape := ⟨2, ![64, 512]⟩
abbrev S64x3 : Shape := ⟨2, ![64, 3]⟩
abbrev S64x8 : Shape := ⟨2, ![64, 8]⟩
abbrev S1 : Shape := ⟨1, ![1]⟩
abbrev S1x1 : Shape := ⟨2, ![1, 1]⟩
abbrev S64x32 : Shape := ⟨2, ![64, 32]⟩
abbrev S64x552 : Shape := ⟨2, ![64, 552]⟩
abbrev S552x256 : Shape := ⟨2, ![552, 256]⟩
abbrev S64x256 : Shape := ⟨2, ![64, 256]⟩
abbrev S1x256 : Shape := ⟨2, ![1, 256]⟩

abbrev nBuf : Space → Nat
  | .hbm => 127
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384, .f32⟩
  | .hbm, ⟨2, _⟩ => ⟨S64x2, .i32⟩
  | .hbm, ⟨3, _⟩ => ⟨S16384, .f32⟩
  | .hbm, ⟨4, _⟩ => ⟨S16384x3, .f32⟩
  | .hbm, ⟨5, _⟩ => ⟨S_, .i32⟩
  | .hbm, ⟨6, _⟩ => ⟨S64, .i32⟩
  | .hbm, ⟨7, _⟩ => ⟨S32x32, .f32⟩
  | .hbm, ⟨8, _⟩ => ⟨S256x552, .f32⟩
  | .hbm, ⟨9, _⟩ => ⟨S256, .f32⟩
  | .hbm, ⟨10, _⟩ => ⟨S16384, .i32⟩
  | .hbm, ⟨11, _⟩ => ⟨S64x1, .i32⟩
  | .hbm, ⟨12, _⟩ => ⟨S64, .i32⟩
  | .hbm, ⟨13, _⟩ => ⟨S64x1, .i32⟩
  | .hbm, ⟨14, _⟩ => ⟨S64, .i32⟩
  | .hbm, ⟨15, _⟩ => ⟨S1x16384, .i32⟩
  | .hbm, ⟨16, _⟩ => ⟨S64x1, .i32⟩
  | .hbm, ⟨17, _⟩ => ⟨S64x16384, .i32⟩
  | .hbm, ⟨18, _⟩ => ⟨S64x16384, .i32⟩
  | .hbm, ⟨19, _⟩ => ⟨S64x16384, .i1⟩
  | .hbm, ⟨20, _⟩ => ⟨S1x16384, .i32⟩
  | .hbm, ⟨21, _⟩ => ⟨S64x1, .i32⟩
  | .hbm, ⟨22, _⟩ => ⟨S64x16384, .i32⟩
  | .hbm, ⟨23, _⟩ => ⟨S64x16384, .i32⟩
  | .hbm, ⟨24, _⟩ => ⟨S64x16384, .i1⟩
  | .hbm, ⟨25, _⟩ => ⟨S64x16384, .i1⟩
  | .hbm, ⟨26, _⟩ => ⟨S64x16384, .f32⟩
  | .hbm, ⟨27, _⟩ => ⟨S_, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S64x512, .f32⟩
  | .hbm, ⟨33, _⟩ => ⟨S64x1, .f32⟩
  | .hbm, ⟨34, _⟩ => ⟨S64x512, .f32⟩
  | .hbm, ⟨35, _⟩ => ⟨S64x512, .f32⟩
  | .hbm, ⟨36, _⟩ => ⟨S64, .f32⟩
  | .hbm, ⟨37, _⟩ => ⟨S64, .f32⟩
  | .hbm, ⟨38, _⟩ => ⟨S1x16384, .f32⟩
  | .hbm, ⟨39, _⟩ => ⟨S_, .f32⟩
  | .hbm, ⟨40, _⟩ => ⟨S_, .f32⟩
  | .hbm, ⟨41, _⟩ => ⟨S64x16384, .f32⟩
  | .hbm, ⟨42, _⟩ => ⟨S64x16384, .f32⟩
  | .hbm, ⟨43, _⟩ => ⟨S64x16384, .f32⟩
  | .hbm, ⟨44, _⟩ => ⟨S_, .f32⟩
  | .hbm, ⟨45, _⟩ => ⟨S64, .f32⟩
  | .hbm, ⟨46, _⟩ => ⟨S1x16384, .f32⟩
  | .hbm, ⟨47, _⟩ => ⟨S64x16384, .f32⟩
  | .hbm, ⟨48, _⟩ => ⟨S64x16384, .f32⟩
  | .hbm, ⟨49, _⟩ => ⟨S64x1, .f32⟩
  | .hbm, ⟨50, _⟩ => ⟨S_, .f32⟩
  | .hbm, ⟨51, _⟩ => ⟨S64x1, .f32⟩
  | .hbm, ⟨52, _⟩ => ⟨S64x1, .f32⟩
  | .hbm, ⟨53, _⟩ => ⟨S64x16384, .f32⟩
  | .hbm, ⟨54, _⟩ => ⟨S64x16384, .f32⟩
  | .hbm, ⟨55, _⟩ => ⟨S_, .f32⟩
  | .hbm, ⟨56, _⟩ => ⟨S64x16384, .f32⟩
  | .hbm, ⟨57, _⟩ => ⟨S64x16384, .f32⟩
  | .hbm, ⟨58, _⟩ => ⟨S64x16384, .f32⟩
  | .hbm, ⟨59, _⟩ => ⟨S64x16384, .f32⟩
  | .hbm, ⟨60, _⟩ => ⟨S64x16384, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S64x3, .f32⟩
  | .hbm, ⟨65, _⟩ => ⟨S64x1, .f32⟩
  | .hbm, ⟨66, _⟩ => ⟨S64x3, .f32⟩
  | .hbm, ⟨67, _⟩ => ⟨S64x3, .f32⟩
  | .hbm, ⟨68, _⟩ => ⟨S64, .i32⟩
  | .hbm, ⟨69, _⟩ => ⟨S64, .f32⟩
  | .hbm, ⟨70, _⟩ => ⟨S_, .f32⟩
  | .hbm, ⟨71, _⟩ => ⟨S64, .f32⟩
  | .hbm, ⟨72, _⟩ => ⟨S64, .f32⟩
  | .hbm, ⟨73, _⟩ => ⟨S64, .f32⟩
  | .hbm, ⟨74, _⟩ => ⟨S_, .f32⟩
  | .hbm, ⟨75, _⟩ => ⟨S64, .f32⟩
  | .hbm, ⟨76, _⟩ => ⟨S64, .f32⟩
  | .hbm, ⟨77, _⟩ => ⟨S64x1, .f32⟩
  | .hbm, ⟨78, _⟩ => ⟨S64, .f32⟩
  | .hbm, ⟨79, _⟩ => ⟨S64x1, .f32⟩
  | .hbm, ⟨80, _⟩ => ⟨S64, .f32⟩
  | .hbm, ⟨81, _⟩ => ⟨S64x1, .f32⟩
  | .hbm, ⟨82, _⟩ => ⟨S64, .f32⟩
  | .hbm, ⟨83, _⟩ => ⟨S64x1, .f32⟩
  | .hbm, ⟨84, _⟩ => ⟨S64x1, .f32⟩
  | .hbm, ⟨85, _⟩ => ⟨S64x1, .f32⟩
  | .hbm, ⟨86, _⟩ => ⟨S64x1, .f32⟩
  | .hbm, ⟨87, _⟩ => ⟨S64x1, .f32⟩
  | .hbm, ⟨88, _⟩ => ⟨S64x1, .f32⟩
  | .hbm, ⟨89, _⟩ => ⟨S64x1, .f32⟩
  | .hbm, ⟨90, _⟩ => ⟨S64x1, .f32⟩
  | .hbm, ⟨91, _⟩ => ⟨S64x8, .f32⟩
  | .hbm, ⟨92, _⟩ => ⟨S64x8, .f32⟩
  | .hbm, ⟨93, _⟩ => ⟨S64, .f32⟩
  | .hbm, ⟨94, _⟩ => ⟨S64, .f32⟩
  | .hbm, ⟨95, _⟩ => ⟨S_, .i32⟩
  | .hbm, ⟨96, _⟩ => ⟨S64, .i32⟩
  | .hbm, ⟨97, _⟩ => ⟨S64, .i1⟩
  | .hbm, ⟨98, _⟩ => ⟨S_, .i32⟩
  | .hbm, ⟨99, _⟩ => ⟨S64, .i32⟩
  | .hbm, ⟨100, _⟩ => ⟨S64, .i32⟩
  | .hbm, ⟨101, _⟩ => ⟨S64, .i32⟩
  | .hbm, ⟨102, _⟩ => ⟨S64x1, .i32⟩
  | .hbm, ⟨103, _⟩ => ⟨S1, .i32⟩
  | .hbm, ⟨104, _⟩ => ⟨S_, .i32⟩
  | .hbm, ⟨105, _⟩ => ⟨S64x1, .i32⟩
  | .hbm, ⟨106, _⟩ => ⟨S64x1, .i1⟩
  | .hbm, ⟨107, _⟩ => ⟨S1x1, .i32⟩
  | .hbm, ⟨108, _⟩ => ⟨S64x1, .i32⟩
  | .hbm, ⟨109, _⟩ => ⟨S64x1, .i1⟩
  | .hbm, ⟨110, _⟩ => ⟨S64x1, .i1⟩
  | .hbm, ⟨111, _⟩ => ⟨S_, .i1⟩
  | .hbm, ⟨112, _⟩ => ⟨S64, .i1⟩
  | .hbm, ⟨113, _⟩ => ⟨S64x32, .f32⟩
  | .hbm, ⟨114, _⟩ => ⟨S64x32, .i1⟩
  | .hbm, ⟨115, _⟩ => ⟨S_, .f32⟩
  | .hbm, ⟨116, _⟩ => ⟨S64x32, .f32⟩
  | .hbm, ⟨117, _⟩ => ⟨S64x32, .f32⟩
  | .hbm, ⟨118, _⟩ => ⟨S64x552, .f32⟩
  | .hbm, ⟨119, _⟩ => ⟨S552x256, .f32⟩
  | .hbm, ⟨120, _⟩ => ⟨S64x256, .f32⟩
  | .hbm, ⟨121, _⟩ => ⟨S1x256, .f32⟩
  | .hbm, ⟨122, _⟩ => ⟨S64x256, .f32⟩
  | .hbm, ⟨123, _⟩ => ⟨S64x256, .f32⟩
  | .hbm, ⟨124, _⟩ => ⟨S_, .f32⟩
  | .hbm, ⟨125, _⟩ => ⟨S64, .f32⟩
  | .hbm, ⟨126, _⟩ => ⟨S64, .i1⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_call1_c : Ref sig .tc := ⟨.hbm, 95, rfl⟩
abbrev main_call1_v0 : Ref sig .tc := ⟨.hbm, 96, rfl⟩
abbrev main_call1_v1 : Ref sig .tc := ⟨.hbm, 97, rfl⟩
abbrev main_call1_c_0 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_v5 : Ref sig .tc := ⟨.hbm, 102, rfl⟩
abbrev main_call1_c_1 : Ref sig .tc := ⟨.hbm, 103, rfl⟩
abbrev main_call1_c_2 : Ref sig .tc := ⟨.hbm, 104, rfl⟩
abbrev main_call1_v6 : Ref sig .tc := ⟨.hbm, 105, rfl⟩
abbrev main_call1_v7 : Ref sig .tc := ⟨.hbm, 106, rfl⟩
abbrev main_call1_v8 : Ref sig .tc := ⟨.hbm, 107, rfl⟩
abbrev main_call1_v9 : Ref sig .tc := ⟨.hbm, 108, rfl⟩
abbrev main_call1_v10 : Ref sig .tc := ⟨.hbm, 109, rfl⟩
abbrev main_call1_v11 : Ref sig .tc := ⟨.hbm, 110, rfl⟩
abbrev main_call1_c_3 : Ref sig .tc := ⟨.hbm, 111, rfl⟩
abbrev main_call1_v12 : Ref sig .tc := ⟨.hbm, 112, rfl⟩
abbrev main_call1_v13 : Ref sig .tc := ⟨.hbm, 113, rfl⟩
abbrev main_call1_v14 : Ref sig .tc := ⟨.hbm, 114, rfl⟩
abbrev main_call1_cst : Ref sig .tc := ⟨.hbm, 115, rfl⟩
abbrev main_call1_v15 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_6 : Ref sig .tc := ⟨.hbm, 124, rfl⟩
abbrev main_v82 : Ref sig .tc := ⟨.hbm, 125, rfl⟩
abbrev main_v83 : Ref sig .tc := ⟨.hbm, 126, rfl⟩

abbrev nD : Nat := 1
abbrev τ : Topo := Topo.v7x

variable {F : FTy → Type} [FloatOps F]
-- ==== GuardedIdeal.lean ====
abbrev S16384x512 : Shape := ⟨2, ![16384, 512]⟩
abbrev S16384 : Shape := ⟨1, ![16384]⟩
abbrev S64x2 : Shape := ⟨2, ![64, 2]⟩
abbrev S16384x3 : Shape := ⟨2, ![16384, 3]⟩
abbrev S_ : Shape := ⟨0, ![]⟩
abbrev S64 : Shape := ⟨1, ![64]⟩
abbrev S32x32 : Shape := ⟨2, ![32, 32]⟩
abbrev S256x552 : Shape := ⟨2, ![256, 552]⟩
abbrev S256 : Shape := ⟨1, ![256]⟩
abbrev S64x1 : Shape := ⟨2, ![64, 1]⟩
abbrev S1x16384 : Shape := ⟨2, ![1, 16384]⟩
abbrev S64x16384 : Shape := ⟨2, ![64, 16384]⟩
abbrev S64x512 : Shape := ⟨2, ![64, 512]⟩
abbrev S64x3 : Shape := ⟨2, ![64, 3]⟩
abbrev S64x8 : Shape := ⟨2, ![64, 8]⟩
abbrev S1 : Shape := ⟨1, ![1]⟩
abbrev S1x1 : Shape := ⟨2, ![1, 1]⟩
abbrev S64x32 : Shape := ⟨2, ![64, 32]⟩
abbrev S64x552 : Shape := ⟨2, ![64, 552]⟩
abbrev S552x256 : Shape := ⟨2, ![552, 256]⟩
abbrev S64x256 : Shape := ⟨2, ![64, 256]⟩
abbrev S1x256 : Shape := ⟨2, ![1, 256]⟩

abbrev nBuf : Space → Nat
  | .hbm => 136
  | .vmem => 0
  | .smem => 0
  | _ => 0

abbrev hbmTy0_0 (i : Nat) : BufTy := match i % 128 with
  | 0 => ⟨S16384x512, .f32⟩
  | 1 => ⟨S16384, .f32⟩
  | 2 => ⟨S64x2, .i32⟩
  | 3 => ⟨S16384, .f32⟩
  | 4 => ⟨S16384x3, .f32⟩
  | 5 => ⟨S_, .i32⟩
  | 6 => ⟨S64, .i32⟩
  | 7 => ⟨S32x32, .f32⟩
  | 8 => ⟨S256x552, .f32⟩
  | 9 => ⟨S256, .f32⟩
  | 10 => ⟨S16384, .i32⟩
  | 11 => ⟨S64x1, .i32⟩
  | 12 => ⟨S64, .i32⟩
  | 13 => ⟨S64x1, .i32⟩
  | 14 => ⟨S64, .i32⟩
  | 15 => ⟨S1x16384, .i32⟩
  | 16 => ⟨S64x1, .i32⟩
  | 17 => ⟨S64x16384, .i32⟩
  | 18 => ⟨S64x16384, .i32⟩
  | 19 => ⟨S64x16384, .i1⟩
  | 20 => ⟨S1x16384, .i32⟩
  | 21 => ⟨S64x1, .i32⟩
  | 22 => ⟨S64x16384, .i32⟩
  | 23 => ⟨S64x16384, .i32⟩
  | 24 => ⟨S64x16384, .i1⟩
  | 25 => ⟨S64x16384, .i1⟩
  | 26 => ⟨S64x16384, .f32⟩
  | 27 => ⟨S_, .f32⟩
  | 28 => ⟨S64, .f32⟩
  | 29 => ⟨S_, .f32⟩
  | 30 => ⟨S64, .f32⟩
  | 31 => ⟨S64, .f32⟩
  | 32 => ⟨S64x512, .f32⟩
  | 33 => ⟨S64x1, .f32⟩
  | 34 => ⟨S64x512, .f32⟩
  | 35 => ⟨S64x512, .f32⟩
  | 36 => ⟨S64, .f32⟩
  | 37 => ⟨S64, .f32⟩
  | 38 => ⟨S1x16384, .f32⟩
  | 39 => ⟨S_, .f32⟩
  | 40 => ⟨S_, .f32⟩
  | 41 => ⟨S64x16384, .f32⟩
  | 42 => ⟨S64x16384, .f32⟩
  | 43 => ⟨S64x16384, .f32⟩
  | 44 => ⟨S_, .f32⟩
  | 45 => ⟨S64, .f32⟩
  | 46 => ⟨S1x16384, .f32⟩
  | 47 => ⟨S64x16384, .f32⟩
  | 48 => ⟨S64x16384, .f32⟩
  | 49 => ⟨S64x1, .f32⟩
  | 50 => ⟨S_, .f32⟩
  | 51 => ⟨S64x1, .f32⟩
  | 52 => ⟨S64x1, .f32⟩
  | 53 => ⟨S64x16384, .f32⟩
  | 54 => ⟨S64x16384, .f32⟩
  | 55 => ⟨S_, .f32⟩
  | 56 => ⟨S16384, .f32⟩
  | 57 => ⟨S16384, .f32⟩
  | 58 => ⟨S16384, .f32⟩
  | 59 => ⟨S1x16384, .f32⟩
  | 60 => ⟨S_, .f32⟩
  | 61 => ⟨S64, .f32⟩
  | 62 => ⟨S64, .f32⟩
  | 63 => ⟨S64, .f32⟩
  | 64 => ⟨S64x1, .f32⟩
  | 65 => ⟨S64x16384, .f32⟩
  | 66 => ⟨S64x16384, .f32⟩
  | 67 => ⟨S64x16384, .f32⟩
  | 68 => ⟨S64x16384, .f32⟩
  | 69 => ⟨S64x16384, .f32⟩
  | 70 => ⟨S_, .f32⟩
  | 71 => ⟨S64, .f32⟩
  | 72 => ⟨S64, .f32⟩
  | 73 => ⟨S64x3, .f32⟩
  | 74 => ⟨S64x1, .f32⟩
  | 75 => ⟨S64x3, .f32⟩
  | 76 => ⟨S64x3, .f32⟩
  | 77 => ⟨S64, .i32⟩
  | 78 => ⟨S64, .f32⟩
  | 79 => ⟨S_, .f32⟩
  | 80 => ⟨S64, .f32⟩
  | 81 => ⟨S64, .f32⟩
  | 82 => ⟨S64, .f32⟩
  | 83 => ⟨S_, .f32⟩
  | 84 => ⟨S64, .f32⟩
  | 85 => ⟨S64, .f32⟩
  | 86 => ⟨S64x1, .f32⟩
  | 87 => ⟨S64, .f32⟩
  | 88 => ⟨S64x1, .f32⟩
  | 89 => ⟨S64, .f32⟩
  | 90 => ⟨S64x1, .f32⟩
  | 91 => ⟨S64, .f32⟩
  | 92 => ⟨S64x1, .f32⟩
  | 93 => ⟨S64x1, .f32⟩
  | 94 => ⟨S64x1, .f32⟩
  | 95 => ⟨S64x1, .f32⟩
  | 96 => ⟨S64x1, .f32⟩
  | 97 => ⟨S64x1, .f32⟩
  | 98 => ⟨S64x1, .f32⟩
  | 99 => ⟨S64x1, .f32⟩
  | 100 => ⟨S64x8, .f32⟩
  | 101 => ⟨S64x8, .f32⟩
  | 102 => ⟨S64, .f32⟩
  | 103 => ⟨S64, .f32⟩
  | 104 => ⟨S_, .i32⟩
  | 105 => ⟨S64, .i32⟩
  | 106 => ⟨S64, .i1⟩
  | 107 => ⟨S_, .i32⟩
  | 108 => ⟨S64, .i32⟩
  | 109 => ⟨S64, .i32⟩
  | 110 => ⟨S64, .i32⟩
  | 111 => ⟨S64x1, .i32⟩
  | 112 => ⟨S1, .i32⟩
  | 113 => ⟨S_, .i32⟩
  | 114 => ⟨S64x1, .i32⟩
  | 115 => ⟨S64x1, .i1⟩
  | 116 => ⟨S1x1, .i32⟩
  | 117 => ⟨S64x1, .i32⟩
  | 118 => ⟨S64x1, .i1⟩
  | 119 => ⟨S64x1, .i1⟩
  | 120 => ⟨S_, .i1⟩
  | 121 => ⟨S64, .i1⟩
  | 122 => ⟨S64x32, .f32⟩
  | 123 => ⟨S64x32, .i1⟩
  | 124 => ⟨S_, .f32⟩
  | 125 => ⟨S64x32, .f32⟩
  | 126 => ⟨S64x32, .f32⟩
  | 127 => ⟨S64x552, .f32⟩
  | _ => ⟨S16384x512, .f32⟩

abbrev hbmTy0_1 (i : Nat) : BufTy := match i % 128 with
  | 0 => ⟨S552x256, .f32⟩
  | 1 => ⟨S64x256, .f32⟩
  | 2 => ⟨S1x256, .f32⟩
  | 3 => ⟨S64x256, .f32⟩
  | 4 => ⟨S64x256, .f32⟩
  | 5 => ⟨S_, .f32⟩
  | 6 => ⟨S64, .f32⟩
  | 7 => ⟨S64, .i1⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_6 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_call1_c : Ref sig .tc := ⟨.hbm, 104, rfl⟩
abbrev main_call1_v0 : Ref sig .tc := ⟨.hbm, 105, rfl⟩
abbrev main_call1_v1 : Ref sig .tc := ⟨.hbm, 106, rfl⟩
abbrev main_call1_c_0 : Ref sig .tc := ⟨.hbm, 107, rfl⟩
abbrev main_call1_v2 : Ref sig .tc := ⟨.hbm, 108, rfl⟩
abbrev main_call1_v3 : Ref sig .tc := ⟨.hbm, 109, rfl⟩
abbrev main_call1_v4 : Ref sig .tc := ⟨.hbm, 110, rfl⟩
abbrev main_call1_v5 : Ref sig .tc := ⟨.hbm, 111, rfl⟩
abbrev main_call1_c_1 : Ref sig .tc := ⟨.hbm, 112, rfl⟩
abbrev main_call1_c_2 : Ref sig .tc := ⟨.hbm, 113, rfl⟩
abbrev main_call1_v6 : Ref sig .tc := ⟨.hbm, 114, rfl⟩
abbrev main_call1_v7 : Ref sig .tc := ⟨.hbm, 115, rfl⟩
abbrev main_call1_v8 : Ref sig .tc := ⟨.hbm, 116, rfl⟩
abbrev main_call1_v9 : Ref sig .tc := ⟨.hbm, 117, rfl⟩
abbrev main_call1_v10 : Ref sig .tc := ⟨.hbm, 118, rfl⟩
abbrev main_call1_v11 : Ref sig .tc := ⟨.hbm, 119, rfl⟩
abbrev main_call1_c_3 : Ref sig .tc := ⟨.hbm, 120, rfl⟩
abbrev main_call1_v12 : Ref sig .tc := ⟨.hbm, 121, rfl⟩
abbrev main_call1_v13 : Ref sig .tc := ⟨.hbm, 122, rfl⟩
abbrev main_call1_v14 : Ref sig .tc := ⟨.hbm, 123, rfl⟩
abbrev main_call1_cst : Ref sig .tc := ⟨.hbm, 124, rfl⟩
abbrev main_call1_v15 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_cst_7 : Ref sig .tc := ⟨.hbm, 133, rfl⟩
abbrev main_v90 : Ref sig .tc := ⟨.hbm, 134, rfl⟩
abbrev main_v91 : Ref sig .tc := ⟨.hbm, 135, rfl⟩

abbrev nD : Nat := 1
abbrev τ : Topo := Topo.v7x

variable {F : FTy → Type} [FloatOps F]
-- ==== Proof.Spec.lean ====
/-
  The statistics of a segment, on plain functions: frames are numbered `0 … 16383`, a segment is the interval of frames from
  the word `s` up to, not with, the word `e`. Every array here is a function of its own indices alone, so that the kernel and
  the references are compared in the same words.
-/
module

public import Idealize.ShloMosaic.Lib.Pointwise
public import Idealize.ShloMosaic.Lib.WordCmp

@[expose] public section

noncomputable section

open Idealize.ShloMosaic

namespace Segment

/-- Frame `n` lies in the segment. -/
def Inside (s e : BitVec 32) (n : ℕ) : Prop := s.toInt ≤ (n : ℤ) ∧ (n : ℤ) < e.toInt

instance (s e : BitVec 32) (n : ℕ) : Decidable (Inside s e n) := inferInstanceAs (Decidable (_ ∧ _))

/-- One inside the segment, zero outside. -/
def weight (s e : BitVec 32) (n : ℕ) : EReal := if Inside s e n then 1 else 0

/-! ### The mask's word -/

theorem ofNat_toInt {n : ℕ} (hn : n < 16384) : (BitVec.ofNat 32 n).toInt = n := by
  have h : (BitVec.ofNat 32 n).toNat = n := by rw [BitVec.toNat_ofNat]; exact Nat.mod_eq_of_lt (by omega)
  rw [BitVec.toInt_eq_toNat_of_lt (by omega), h]

theorem mask_word (s e : BitVec 32) {n : ℕ} (hn : n < 16384) :
    IntOp.andi (IntOp.cmpi .sge (BitVec.ofNat 32 n) s) (IntOp.cmpi .slt (BitVec.ofNat 32 n) e)
      = if Inside s e n then 1#1 else 0#1 := by
  rw [WordCmp.cmpi_sge_eq, WordCmp.cmpi_slt_eq, ofNat_toInt hn]
  unfold Inside IntOp.andi
  by_cases h₁ : s.toInt ≤ (n : ℤ) <;> by_cases h₂ : (n : ℤ) < e.toInt <;> simp [h₁, h₂]

theorem uitofp_mask (s e : BitVec 32) {n : ℕ} (hn : n < 16384) :
    FloatOps.uitofp (F := Ideal) .f32 (IntOp.andi (IntOp.cmpi .sge (BitVec.ofNat 32 n) s) (IntOp.cmpi .slt (BitVec.ofNat 32 n) e))
      = weight s e n := by
  rw [mask_word s e hn]
  unfold weight
  split
  · show (((1#1 : BitVec 1).toNat : ℝ) : EReal) = 1
    norm_num
  · show (((0#1 : BitVec 1).toNat : ℝ) : EReal) = 0
    norm_num

theorem sitofp_mask (s e : BitVec 32) {n : ℕ} (hn : n < 16384) :
    FloatOps.sitofp (F := Ideal) .f32 (BitVec.setWidth 32
        (IntOp.andi (IntOp.cmpi .sge (BitVec.ofNat 32 n) s) (IntOp.cmpi .slt (BitVec.ofNat 32 n) e)))
      = weight s e n := by
  rw [mask_word s e hn]
  unfold weight
  split
  · show ((((1#1 : BitVec 1).setWidth 32).toInt : ℝ) : EReal) = 1
    norm_num
  · show ((((0#1 : BitVec 1).setWidth 32).toInt : ℝ) : EReal) = 0
    norm_num

theorem select_mask (s e : BitVec 32) {n : ℕ} (hn : n < 16384) (a b : EReal) :
    Scalar.select (IntOp.andi (IntOp.cmpi .sge (BitVec.ofNat 32 n) s) (IntOp.cmpi .slt (BitVec.ofNat 32 n) e)) a b
      = if Inside s e n then a else b := by
  rw [mask_word s e hn]
  unfold Scalar.select
  split <;> simp

/-- The bit of an equality, as a number. -/
theorem sitofp_eq (a b : BitVec 32) : FloatOps.sitofp (F := Ideal) .f32 (BitVec.setWidth 32 (IntOp.cmpi .eq a b))
    = if a = b then 1 else 0 := by
  rw [WordCmp.cmpi_eq_eq]
  by_cases h : a = b
  · rw [if_pos h, decide_eq_true h]
    show ((((1#1 : BitVec 1).setWidth 32).toInt : ℝ) : EReal) = 1
    norm_num
  · rw [if_neg h, decide_eq_false h]
    show ((((0#1 : BitVec 1).setWidth 32).toInt : ℝ) : EReal) = 0
    norm_num

/-- The number of frame `x` of block `t`, as the kernel computes it. -/
theorem frame_word (t x : ℕ) : IntOp.addi (Scalar.muli (BitVec.ofNat 32 t) 4096#32) (BitVec.ofNat 32 x)
    = BitVec.ofNat 32 (t * 4096 + x) := by
  show BitVec.ofNat 32 t * BitVec.ofNat 32 4096 + BitVec.ofNat 32 x = _
  rw [← BitVec.ofNat_mul, ← BitVec.ofNat_add]

/-! ### The constants -/

/-- The guard `1e-6` of the quotient. -/
abbrev eps : EReal := Ideal.ofBits .f32 0x358637BD#32
/-- The guard `1e-30` of the logarithm. -/
abbrev tiny : EReal := Ideal.ofBits .f32 0x0DA24260#32
/-- Minus infinity, where a maximum starts. -/
abbrev low : EReal := Ideal.ofBits .f32 0xFF800000#32

theorem low_eq : low = ⊥ := by
  unfold low
  simp [Ideal.ofBits, Ideal.ieee]

/-! ### The statistics -/

/-- The sum of `f` over the segment. -/
def total (s e : BitVec 32) (f : Fin 16384 → EReal) : EReal := ∑ x : Fin 16384, weight s e x.val * f x

/-- The greatest value of `f` in the segment. -/
def peak (s e : BitVec 32) (f : Fin 16384 → EReal) : EReal :=
  Finset.univ.fold max low fun x : Fin 16384 => if Inside s e x.val then f x else low

/-- The number of frames by the segment's ends. -/
def length (s e : BitVec 32) : EReal := FloatOps.sitofp (F := Ideal) .f32 (IntOp.subi e s)

/-- The number of frames by counting, at least one. -/
def count (s e : BitVec 32) : EReal := max (∑ x : Fin 16384, weight s e x.val) 1

/-- The mean of `f` over the segment. -/
def mean (s e : BitVec 32) (f : Fin 16384 → EReal) : EReal := Ideal.div (total s e f) (length s e)

/-- The entropy of the energies in the segment, by the two sums the kernel keeps. -/
def entropy (s e : BitVec 32) (f : Fin 16384 → EReal) : EReal :=
  Ideal.div (total s e f * Ideal.log (total s e f + eps) - total s e fun x => f x * Ideal.log (f x + tiny)) (total s e f + eps)

/-- The eight statistics, under `log (1 + ·)`: duration and latency in seconds, the mean and the peak of the energy, its
    entropy, the means of the three streams. -/
def stat (s e fps : BitVec 32) (energy : Fin 16384 → EReal) (stream : Fin 3 → Fin 16384 → EReal) : Fin 8 → EReal :=
  ![Ideal.log1p (Ideal.div (length s e) (FloatOps.sitofp (F := Ideal) .f32 fps)),
    Ideal.log1p (Ideal.div (FloatOps.sitofp (F := Ideal) .f32 s) (FloatOps.sitofp (F := Ideal) .f32 fps)),
    Ideal.log1p (mean s e energy), Ideal.log1p (peak s e energy), Ideal.log1p (entropy s e energy),
    Ideal.log1p (mean s e (stream 0)), Ideal.log1p (mean s e (stream 1)), Ideal.log1p (mean s e (stream 2))]

section Columns

variable (s e fps : BitVec 32) (energy : Fin 16384 → EReal) (stream : Fin 3 → Fin 16384 → EReal)

theorem stat_duration : stat s e fps energy stream 0 = Ideal.log1p (Ideal.div (length s e) (FloatOps.sitofp (F := Ideal) .f32 fps)) := by simp only [stat, Matrix.cons_val]
theorem stat_latency : stat s e fps energy stream 1 = Ideal.log1p (Ideal.div (FloatOps.sitofp (F := Ideal) .f32 s) (FloatOps.sitofp (F := Ideal) .f32 fps)) := by simp only [stat, Matrix.cons_val]
theorem stat_mean : stat s e fps energy stream 2 = Ideal.log1p (mean s e energy) := by simp only [stat, Matrix.cons_val]
theorem stat_peak : stat s e fps energy stream 3 = Ideal.log1p (peak s e energy) := by simp only [stat, Matrix.cons_val]
theorem stat_entropy : stat s e fps energy stream 4 = Ideal.log1p (entropy s e energy) := by simp only [stat, Matrix.cons_val]
theorem stat_stream0 : stat s e fps energy stream 5 = Ideal.log1p (mean s e (stream 0)) := by simp only [stat, Matrix.cons_val]
theorem stat_stream1 : stat s e fps energy stream 6 = Ideal.log1p (mean s e (stream 1)) := by simp only [stat, Matrix.cons_val]
theorem stat_stream2 : stat s e fps energy stream 7 = Ideal.log1p (mean s e (stream 2)) := by simp only [stat, Matrix.cons_val]

end Columns

/-- The row of the embedding table a type names, as a sum over the table's rows. -/
def embedding (ty : BitVec 32) (emb : Fin 32 → Fin 32 → EReal) (q : Fin 32) : EReal :=
  ∑ x : Fin 32, (if ty = BitVec.ofNat 32 x.val then 1 else 0) * emb x q

/-- A token's entry: the means of the features, the statistics and the embedding against one row of the weights, and the
    bias. -/
def token (s e fps ty : BitVec 32) (features : Fin 512 → Fin 16384 → EReal) (energy : Fin 16384 → EReal)
    (stream : Fin 3 → Fin 16384 → EReal) (emb : Fin 32 → Fin 32 → EReal) (w : Fin 552 → EReal) (b : EReal) : EReal :=
  ∑ d : Fin 512, mean s e (features d) * w ⟨d.val, by omega⟩
    + ∑ j : Fin 8, stat s e fps energy stream j * w ⟨512 + j.val, by omega⟩
    + ∑ q : Fin 32, embedding ty emb q * w ⟨520 + q.val, by omega⟩ + b

/-- What holds of every column holds of each of the eight. -/
theorem forall_columns {p : Fin 8 → Prop} (h0 : p 0) (h1 : p 1) (h2 : p 2) (h3 : p 3) (h4 : p 4) (h5 : p 5) (h6 : p 6)
    (h7 : p 7) : ∀ j, p j := by
  intro j
  fin_cases j <;> assumption

end Segment
-- ==== Proof.Host.lean ====
/-
  The arrays the host hands to the launch, read at an index in the arguments of the call: the two ends of a segment, its
  length and its start in seconds, its event type, the five rows of scalars (energy, frame confidence, the three streams),
  the three column blocks of the weights, and the bias as a row.
-/
module

public import proofs.«01_k».proof.Proof.Gen.KernelIdeal.Frame
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-! The arguments of the call. -/

abbrev features (c : Dev nD) : FVec Ideal S16384x512 .f32 := m ((c : Thread nD τ).loc main_arg0)
abbrev energy (c : Dev nD) : FVec Ideal S16384 .f32 := m ((c : Thread nD τ).loc main_arg1)
abbrev segments (c : Dev nD) : IVec S64x2 32 := m ((c : Thread nD τ).loc main_arg2)
abbrev frameConf (c : Dev nD) : FVec Ideal S16384 .f32 := m ((c : Thread nD τ).loc main_arg3)
abbrev streamConf (c : Dev nD) : FVec Ideal S16384x3 .f32 := m ((c : Thread nD τ).loc main_arg4)
abbrev fps (c : Dev nD) : IVec S_ 32 := m ((c : Thread nD τ).loc main_arg5)
abbrev eventType (c : Dev nD) : IVec S64 32 := m ((c : Thread nD τ).loc main_arg6)
abbrev embTable (c : Dev nD) : FVec Ideal S32x32 .f32 := m ((c : Thread nD τ).loc main_arg7)
abbrev weights (c : Dev nD) : FVec Ideal S256x552 .f32 := m ((c : Thread nD τ).loc main_arg8)
abbrev bias (c : Dev nD) : FVec Ideal S256 .f32 := m ((c : Thread nD τ).loc main_arg9)

theorem V_features (c : Dev nD) : V m c main_arg0 = features m c := by
  unfold V V0
  simp only [List.flatten_cons, List.flatten_nil, List.append_nil]
  after_results

theorem V_embTable (c : Dev nD) : V m c main_arg7 = embTable m c := by
  unfold V V0
  simp only [List.flatten_cons, List.flatten_nil, List.append_nil]
  after_results

theorem V_start (c : Dev nD) (k : Fin 64) : (V m c main_v19 : IVec S64x1 32) (ix2 k 0) = segments m c (ix2 k 0) := by
  unfold V V0
  simp only [List.flatten_cons, List.flatten_nil, List.append_nil]
  after_results
  pointwise

theorem V_stop (c : Dev nD) (k : Fin 64) : (V m c main_v20 : IVec S64x1 32) (ix2 k 0) = segments m c (ix2 k 1) := by
  unfold V V0
  simp only [List.flatten_cons, List.flatten_nil, List.append_nil]
  after_results
  pointwise

theorem V_eventType (c : Dev nD) (k : Fin 64) : (V m c main_v21 : IVec S64x1 32) (ix2 k 0) = eventType m c (ix1 k) := by
  unfold V V0
  simp only [List.flatten_cons, List.flatten_nil, List.append_nil]
  after_results
  pointwise

theorem V_duration (c : Dev nD) (k : Fin 64) : (V m c main_v14 : FVec Ideal S64x2 .f32) (ix2 k 0)
    = Ideal.div (FloatOps.sitofp (F := Ideal) .f32 (IntOp.subi (segments m c (ix2 k 1)) (segments m c (ix2 k 0))))
        (FloatOps.sitofp (F := Ideal) .f32 (fps m c ix0)) := by
  unfold V V0
  simp only [List.flatten_cons, List.flatten_nil, List.append_nil]
  after_results
  pointwise

theorem V_latency (c : Dev nD) (k : Fin 64) : (V m c main_v14 : FVec Ideal S64x2 .f32) (ix2 k 1)
    = Ideal.div (FloatOps.sitofp (F := Ideal) .f32 (segments m c (ix2 k 0)))
        (FloatOps.sitofp (F := Ideal) .f32 (fps m c ix0)) := by
  unfold V V0
  simp only [List.flatten_cons, List.flatten_nil, List.append_nil]
  after_results
  pointwise

theorem concatenate_rows {x x' y y' : FVec Ideal S1x16384 .f32} {z z' : FVec Ideal S3x16384 .f32} (hx : x = x') (hy : y = y')
    (hz : z = z') : concatenate S5x16384 0 [⟨S1x16384, x⟩, ⟨S1x16384, y⟩, ⟨S3x16384, z⟩] concatenates_S1x16384_S1x16384_S3x16384_S5x16384_d0
      = concatenate S5x16384 0 [⟨S1x16384, x'⟩, ⟨S1x16384, y'⟩, ⟨S3x16384, z'⟩] concatenates_S1x16384_S1x16384_S3x16384_S5x16384_d0 := by
  subst hx hy hz; rfl

theorem V_rows (c : Dev nD) : (V m c main_v18 : FVec Ideal S5x16384 .f32)
    = concatenate S5x16384 0 [⟨S1x16384, broadcastInDim S1x16384 ![1] bcast_S16384_S1x16384_1 (energy m c)⟩,
        ⟨S1x16384, broadcastInDim S1x16384 ![1] bcast_S16384_S1x16384_1 (frameConf m c)⟩,
        ⟨S3x16384, transpose S3x16384 [1, 0] (streamConf m c) transposes_S16384x3_S3x16384_1_0⟩]
        concatenates_S1x16384_S1x16384_S3x16384_S5x16384_d0 := by
  unfold V V0
  simp only [List.flatten_cons, List.flatten_nil, List.append_nil]
  after_results
  refine concatenate_rows ?_ ?_ ?_
  · show (_ : (b : DevRef τ sig) → b.ty.Contents (Elt Ideal)) (Proc.devRef .tc main_v15) = _
    after_results_steps
  · show (_ : (b : DevRef τ sig) → b.ty.Contents (Elt Ideal)) (Proc.devRef .tc main_v16) = _
    after_results_steps
  · show (_ : (b : DevRef τ sig) → b.ty.Contents (Elt Ideal)) (Proc.devRef .tc main_v17) = _
    after_results_steps

theorem V_energy (c : Dev nD) (t : Fin 16384) : (V m c main_v18 : FVec Ideal S5x16384 .f32) (ix2 0 t) = energy m c (ix1 t) := by
  rw [V_rows]
  pointwise

theorem V_frameConf (c : Dev nD) (t : Fin 16384) : (V m c main_v18 : FVec Ideal S5x16384 .f32) (ix2 1 t) = frameConf m c (ix1 t) := by
  rw [V_rows]
  pointwise

theorem V_streamConf (c : Dev nD) (s : Fin 3) (t : Fin 16384) :
    (V m c main_v18 : FVec Ideal S5x16384 .f32) (ix2 ⟨2 + s.val, by omega⟩ t) = streamConf m c (ix2 t s) := by
  rw [V_rows]
  pointwise
  rw [dif_neg (by omega), dif_neg (by omega)]
  exact congrArg (fun r => streamConf m c (ix2 t r)) (Fin.ext (by simp only []; omega))

theorem V_weightsE (c : Dev nD) (o : Fin 256) (d : Fin 512) : (V m c main_v22 : FVec Ideal S256x512 .f32) (ix2 o d)
    = weights m c (ix2 o ⟨d.val, by omega⟩) := by
  unfold V V0
  simp only [List.flatten_cons, List.flatten_nil, List.append_nil]
  after_results
  pointwise

theorem V_weightsS (c : Dev nD) (o : Fin 256) (d : Fin 8) : (V m c main_v23 : FVec Ideal S256x8 .f32) (ix2 o d)
    = weights m c (ix2 o ⟨512 + d.val, by omega⟩) := by
  unfold V V0
  simp only [List.flatten_cons, List.flatten_nil, List.append_nil]
  after_results
  pointwise

theorem V_weightsG (c : Dev nD) (o : Fin 256) (d : Fin 32) : (V m c main_v24 : FVec Ideal S256x32 .f32) (ix2 o d)
    = weights m c (ix2 o ⟨520 + d.val, by omega⟩) := by
  unfold V V0
  simp only [List.flatten_cons, List.flatten_nil, List.append_nil]
  after_results
  pointwise

theorem V_bias (c : Dev nD) (o : Fin 256) : (V m c main_v25 : FVec Ideal S1x256 .f32) (ix2 0 o) = bias m c (ix1 o) := by
  unfold V V0
  simp only [List.flatten_cons, List.flatten_nil, List.append_nil]
  after_results
  pointwise

end Cert.KernelIdeal.Value
-- ==== Proof.Steps.lean ====
/-
  What one grid point does to the three accumulators, read off the run of the body: the first point starts them from their
  fills, every later point from what the point before left. And what the last point stores into the three result arrays, in
  the accumulators it has just updated.
-/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The rows of scalars the point reads for its block of frames: the energy alone. -/
abbrev energyRow (c : Dev nD) (t : Fin cfg0.N) : FVec Ideal S1x4096 .f32 :=
  View.ld (iblk m c 4 t) (Rect.unit (k0_off1 (grid0.coords t)) ![1, 4096] (k0_off1_inb (grid0.coords t)))

/-- The rows of scalars the point reads for its block of frames: all five. -/
abbrev scalarRows (c : Dev nD) (t : Fin cfg0.N) : FVec Ideal S5x4096 .f32 :=
  View.ld (iblk m c 4 t) (Rect.unit (k0_off2 (grid0.coords t)) ![5, 4096] (k0_off2_inb (grid0.coords t)))

/-- The sums of the features after a point, from the sums before it. -/
abbrev featNext (c : Dev nD) (t : Fin cfg0.N) (a : FVec Ideal S64x512 .f32) : FVec Ideal S64x512 .f32 :=
  k0_pay16 (grid0.coords t) (iblk m c 0 t) (iblk m c 1 t) a (iblk m c 5 t)

/-- The sums of the scalars after a point, from the sums before it. -/
abbrev scalNext (c : Dev nD) (t : Fin cfg0.N) (a : FVec Ideal S64x8 .f32) : FVec Ideal S64x8 .f32 :=
  k0_pay1 (k0_pay15 (grid0.coords t) (iblk m c 0 t) (iblk m c 1 t))
    (k0_pay18 (energyRow m c t) (scalarRows m c t)) a

/-- The largest energy after a point, from the largest before it. -/
abbrev peakNext (c : Dev nD) (t : Fin cfg0.N) (a : FVec Ideal S64x1 .f32) : FVec Ideal S64x1 .f32 :=
  k0_pay2 (k0_pay14 (grid0.coords t) (iblk m c 0 t) (iblk m c 1 t)) (k0_pay17 (energyRow m c t)) a

/-- What the three accumulators hold after point `n`. -/
abbrev featAt (c : Dev nD) (n : ℕ) (h : n < cfg0.N) : FVec Ideal S64x512 .f32 := (outsAt0 m c n h).2.2.2.1
abbrev scalAt (c : Dev nD) (n : ℕ) (h : n < cfg0.N) : FVec Ideal S64x8 .f32 := (outsAt0 m c n h).2.2.2.2.1
abbrev peakAt (c : Dev nD) (n : ℕ) (h : n < cfg0.N) : FVec Ideal S64x1 .f32 := (outsAt0 m c n h).2.2.2.2.2

theorem pred_lt (t : Fin cfg0.N) : t.val - 1 < cfg0.N := Nat.lt_of_le_of_lt (Nat.sub_le _ _) t.isLt

theorem featAt_first (c : Dev nD) (t : Fin cfg0.N) (h0 : t.val % 4 = 0) :
    featAt m c t.val t.isLt = featNext m c t (k0_pay9 (F := Ideal)) := by
  unfold featAt
  rw [outsAt0_A m c t h0 (by omega)]
  frame_out

theorem scalAt_first (c : Dev nD) (t : Fin cfg0.N) (h0 : t.val % 4 = 0) :
    scalAt m c t.val t.isLt = scalNext m c t (k0_pay10 (F := Ideal)) := by
  unfold scalAt
  rw [outsAt0_A m c t h0 (by omega)]
  frame_out
  rfl

theorem peakAt_first (c : Dev nD) (t : Fin cfg0.N) (h0 : t.val % 4 = 0) :
    peakAt m c t.val t.isLt = peakNext m c t (k0_pay11 (F := Ideal)) := by
  unfold peakAt
  rw [outsAt0_A m c t h0 (by omega)]
  frame_out
  rfl

theorem featAt_next (c : Dev nD) (t : Fin cfg0.N) (h0 : ¬t.val % 4 = 0) :
    featAt m c t.val t.isLt = featNext m c t (featAt m c (t.val - 1) (pred_lt t)) := by
  unfold featAt
  by_cases h1 : t.val % 4 = 3
  · rw [outsAt0_C m c t h0 h1]
    frame_out
    simp only [read_unread_whole]
    try rfl
  · rw [outsAt0_B m c t h0 h1]
    frame_out
    simp only [read_unread_whole]
    try rfl

theorem scalAt_next (c : Dev nD) (t : Fin cfg0.N) (h0 : ¬t.val % 4 = 0) :
    scalAt m c t.val t.isLt = scalNext m c t (scalAt m c (t.val - 1) (pred_lt t)) := by
  unfold scalAt
  by_cases h1 : t.val % 4 = 3
  · rw [outsAt0_C m c t h0 h1]
    frame_out
    simp only [read_unread_whole]
    try rfl
  · rw [outsAt0_B m c t h0 h1]
    frame_out
    simp only [read_unread_whole]
    try rfl

theorem peakAt_next (c : Dev nD) (t : Fin cfg0.N) (h0 : ¬t.val % 4 = 0) :
    peakAt m c t.val t.isLt = peakNext m c t (peakAt m c (t.val - 1) (pred_lt t)) := by
  unfold peakAt
  by_cases h1 : t.val % 4 = 3
  · rw [outsAt0_C m c t h0 h1]
    frame_out
    simp only [read_unread_whole]
    try rfl
  · rw [outsAt0_B m c t h0 h1]
    frame_out
    simp only [read_unread_whole]
    try rfl

/-- The statistics of the segments, `log1p`'d, in the accumulators `s` (sums of the scalars) and `p` (peaks). -/
abbrev statsOf (c : Dev nD) (t : Fin cfg0.N) (s : FVec Ideal S64x8 .f32) (p : FVec Ideal S64x1 .f32) : FVec Ideal S64x8 .f32 :=
  k0_pay6 (F := Ideal) (k0_pay12 (iblk m c 0 t)) (k0_pay13 (iblk m c 1 t))
    (View.ld (Val := Elt Ideal) (e' := .f32) s (Rect.unit (s := S64x8) ![0, 0] S64x1.size inb_S64x8_S64x1_0_0))
    (View.ld (Val := Elt Ideal) (e' := .f32) s (Rect.unit (s := S64x8) ![0, 5] S64x1.size inb_S64x8_S64x1_0_5))
    (View.ld (Val := Elt Ideal) (e' := .f32) s (Rect.unit (s := S64x8) ![0, 2] S64x3.size inb_S64x8_S64x3_0_2))
    (iblk m c 2 t) p

theorem tokens_last (c : Dev nD) (t : Fin cfg0.N) (h1 : t.val % 4 = 3) :
    (outsAt0 m c t.val t.isLt).1
      = k0_pay3 (statsOf m c t (scalAt m c t.val t.isLt) (peakAt m c t.val t.isLt))
          (k0_pay7 (iblk m c 3 t) (iblk m c 6 t))
          (k0_pay8 (k0_pay12 (iblk m c 0 t)) (k0_pay13 (iblk m c 1 t)) (featAt m c t.val t.isLt) (iblk m c 7 t))
          (iblk m c 8 t) (iblk m c 9 t) (iblk m c 10 t) := by
  have h0 : ¬t.val % 4 = 0 := by omega
  rw [featAt_next m c t h0, scalAt_next m c t h0, peakAt_next m c t h0, outsAt0_C m c t h0 h1]
  frame_out
  simp only [read_unread_whole]
  rw [View.readCov_fill _ _ _ _ _ (by decide), View.readCov_fill _ _ _ _ _ (by decide), View.readCov_fill _ _ _ _ _ (by decide)]
  rfl

theorem conf_last (c : Dev nD) (t : Fin cfg0.N) (h1 : t.val % 4 = 3) :
    (outsAt0 m c t.val t.isLt).2.1
      = k0_pay5 (F := Ideal) (k0_pay12 (iblk m c 0 t)) (k0_pay13 (iblk m c 1 t))
          (View.ld (Val := Elt Ideal) (e' := .f32) (scalAt m c t.val t.isLt) (Rect.unit (s := S64x8) ![0, 1] S64x1.size inb_S64x8_S64x1_0_1)) := by
  have h0 : ¬t.val % 4 = 0 := by omega
  rw [scalAt_next m c t h0, outsAt0_C m c t h0 h1]
  frame_out
  simp only [read_unread_whole]
  rw [View.readCov_fill _ _ _ _ _ (by decide)]
  rfl

theorem stats_last (c : Dev nD) (t : Fin cfg0.N) (h1 : t.val % 4 = 3) :
    (outsAt0 m c t.val t.isLt).2.2.1 = statsOf m c t (scalAt m c t.val t.isLt) (peakAt m c t.val t.isLt) := by
  have h0 : ¬t.val % 4 = 0 := by omega
  rw [scalAt_next m c t h0, peakAt_next m c t h0, outsAt0_C m c t h0 h1]
  frame_out
  simp only [read_unread_whole]
  rw [View.readCov_fill _ _ _ _ _ (by decide), View.readCov_fill _ _ _ _ _ (by decide), View.readCov_fill _ _ _ _ _ (by decide)]
  rfl

end Cert.KernelIdeal.Value
-- ==== Proof.Blocks.lean ====
/-
  What one point of the grid adds: point `t` reads frames `4096 t … 4096 t + 4095`, and each of the three scratch arrays
  goes from its value before to that value with the point's frames of the segment taken in.
-/
module

public import proofs.«01_k».proof.Proof.Spec
public import proofs.«01_k».proof.Proof.Host
public import proofs.«01_k».proof.Proof.Steps

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Segment

variable (m : (ℓ : Loc nD τ sig) → Buf (Elt Ideal) ℓ)

/-- The two ends of segment `k`. -/
abbrev start (c : Dev nD) (k : Fin 64) : BitVec 32 := segments m c (ix2 k 0)
abbrev stop (c : Dev nD) (k : Fin 64) : BitVec 32 := segments m c (ix2 k 1)

theorem idx : ∀ t : Fin cfg0.N, (grid0.coords t 0).val = t.val ∧ win0_0.index t = ![0, 0] ∧ win0_1.index t = ![0, 0] ∧ win0_2.index t = ![0, 0]
    ∧ win0_3.index t = ![0, 0] ∧ win0_4.index t = ![0, 0] ∧ win0_5.index t = ![t.val, 0] ∧ win0_6.index t = ![0, 0]
    ∧ win0_7.index t = ![0, 0] ∧ win0_8.index t = ![0, 0] ∧ win0_9.index t = ![0, 0] ∧ win0_10.index t = ![0, 0] :=
  (by decide +kernel : ∀ t : Fin grid0.N, _)

theorem offsets : ∀ t : Fin cfg0.N, k0_off1 (grid0.coords t) 0 = 0 ∧ k0_off1 (grid0.coords t) 1 = t.val * 4096
    ∧ k0_off2 (grid0.coords t) 0 = 0 ∧ k0_off2 (grid0.coords t) 1 = t.val * 4096 :=
  (by decide +kernel : ∀ t : Fin grid0.N, _)

theorem lt_four (t : Fin cfg0.N) : t.val < 4 := t.isLt

/-- Frame `x` of point `t`. -/
abbrev frame (t : Fin cfg0.N) (x : Fin 4096) : Fin 16384 := ⟨t.val * 4096 + x.val, by have := lt_four t; omega⟩

/-! ### The windows' blocks at an index -/

theorem block_start (c : Dev nD) (t : Fin cfg0.N) (k : Fin 64) :
    (iblk m c 0 t : IVec S64x1 32) (ix2 k 0) = start m c k := by
  have h : (iblk m c 0 t : IVec S64x1 32) (ix2 k 0) = (V m c main_v19 : IVec S64x1 32) (ix2 k 0) := by
    blk_point [iblk, idx t]
  exact h.trans (V_start m c k)

theorem block_stop (c : Dev nD) (t : Fin cfg0.N) (k : Fin 64) :
    (iblk m c 1 t : IVec S64x1 32) (ix2 k 0) = stop m c k := by
  have h : (iblk m c 1 t : IVec S64x1 32) (ix2 k 0) = (V m c main_v20 : IVec S64x1 32) (ix2 k 0) := by
    blk_point [iblk, idx t]
  exact h.trans (V_stop m c k)

theorem block_duration (c : Dev nD) (t : Fin cfg0.N) (k : Fin 64) :
    (iblk m c 2 t : FVec Ideal S64x2 .f32) (ix2 k 0) = Ideal.div (length (start m c k) (stop m c k)) (FloatOps.sitofp (F := Ideal) .f32 (fps m c ix0)) := by
  have h : (iblk m c 2 t : FVec Ideal S64x2 .f32) (ix2 k 0) = (V m c main_v14 : FVec Ideal S64x2 .f32) (ix2 k 0) := by
    blk_point [iblk, idx t]
  exact h.trans (V_duration m c k)

theorem block_latency (c : Dev nD) (t : Fin cfg0.N) (k : Fin 64) :
    (iblk m c 2 t : FVec Ideal S64x2 .f32) (ix2 k 1) = Ideal.div (FloatOps.sitofp (F := Ideal) .f32 (start m c k)) (FloatOps.sitofp (F := Ideal) .f32 (fps m c ix0)) := by
  have h : (iblk m c 2 t : FVec Ideal S64x2 .f32) (ix2 k 1) = (V m c main_v14 : FVec Ideal S64x2 .f32) (ix2 k 1) := by
    blk_point [iblk, idx t]
  exact h.trans (V_latency m c k)

theorem block_type (c : Dev nD) (t : Fin cfg0.N) (k : Fin 64) :
    (iblk m c 3 t : IVec S64x1 32) (ix2 k 0) = eventType m c (ix1 k) := by
  have h : (iblk m c 3 t : IVec S64x1 32) (ix2 k 0) = (V m c main_v21 : IVec S64x1 32) (ix2 k 0) := by
    blk_point [iblk, idx t]
  exact h.trans (V_eventType m c k)

theorem block_energy (c : Dev nD) (t : Fin cfg0.N) (n : Fin 16384) :
    (iblk m c 4 t : FVec Ideal S5x16384 .f32) (ix2 0 n) = energy m c (ix1 n) := by
  have h : (iblk m c 4 t : FVec Ideal S5x16384 .f32) (ix2 0 n) = (V m c main_v18 : FVec Ideal S5x16384 .f32) (ix2 0 n) := by
    blk_point [iblk, idx t]
  exact h.trans (V_energy m c n)

theorem block_frameConf (c : Dev nD) (t : Fin cfg0.N) (n : Fin 16384) :
    (iblk m c 4 t : FVec Ideal S5x16384 .f32) (ix2 1 n) = frameConf m c (ix1 n) := by
  have h : (iblk m c 4 t : FVec Ideal S5x16384 .f32) (ix2 1 n) = (V m c main_v18 : FVec Ideal S5x16384 .f32) (ix2 1 n) := by
    blk_point [iblk, idx t]
  exact h.trans (V_frameConf m c n)

theorem block_streamConf (c : Dev nD) (t : Fin cfg0.N) (s : Fin 3) (n : Fin 16384) :
    (iblk m c 4 t : FVec Ideal S5x16384 .f32) (ix2 ⟨2 + s.val, by omega⟩ n) = streamConf m c (ix2 n s) := by
  have h : (iblk m c 4 t : FVec Ideal S5x16384 .f32) (ix2 ⟨2 + s.val, by omega⟩ n) = (V m c main_v18 : FVec Ideal S5x16384 .f32) (ix2 ⟨2 + s.val, by omega⟩ n) := by
    blk_point [iblk, idx t]
  exact h.trans (V_streamConf m c s n)

theorem block_features (c : Dev nD) (t : Fin cfg0.N) (x : Fin 4096) (d : Fin 512) :
    (iblk m c 5 t : FVec Ideal S4096x512 .f32) (ix2 x d) = features m c (ix2 (frame t x) d) := by
  blk_point [iblk, idx t]

theorem block_embTable (c : Dev nD) (t : Fin cfg0.N) (x q : Fin 32) :
    (iblk m c 6 t : FVec Ideal S32x32 .f32) (ix2 x q) = embTable m c (ix2 x q) := by
  have h : (iblk m c 6 t : FVec Ideal S32x32 .f32) (ix2 x q) = (V m c main_arg7 : FVec Ideal S32x32 .f32) (ix2 x q) := by
    blk_point [iblk, idx t]
  exact h.trans (congrFun (V_embTable m c) _)

theorem block_weightsE (c : Dev nD) (t : Fin cfg0.N) (o : Fin 256) (d : Fin 512) :
    (iblk m c 7 t : FVec Ideal S256x512 .f32) (ix2 o d) = weights m c (ix2 o ⟨d.val, by omega⟩) := by
  have h : (iblk m c 7 t : FVec Ideal S256x512 .f32) (ix2 o d) = (V m c main_v22 : FVec Ideal S256x512 .f32) (ix2 o d) := by
    blk_point [iblk, idx t]
  exact h.trans (V_weightsE m c o d)

theorem block_weightsS (c : Dev nD) (t : Fin cfg0.N) (o : Fin 256) (d : Fin 8) :
    (iblk m c 8 t : FVec Ideal S256x8 .f32) (ix2 o d) = weights m c (ix2 o ⟨512 + d.val, by omega⟩) := by
  have h : (iblk m c 8 t : FVec Ideal S256x8 .f32) (ix2 o d) = (V m c main_v23 : FVec Ideal S256x8 .f32) (ix2 o d) := by
    blk_point [iblk, idx t]
  exact h.trans (V_weightsS m c o d)

theorem block_weightsG (c : Dev nD) (t : Fin cfg0.N) (o : Fin 256) (d : Fin 32) :
    (iblk m c 9 t : FVec Ideal S256x32 .f32) (ix2 o d) = weights m c (ix2 o ⟨520 + d.val, by omega⟩) := by
  have h : (iblk m c 9 t : FVec Ideal S256x32 .f32) (ix2 o d) = (V m c main_v24 : FVec Ideal S256x32 .f32) (ix2 o d) := by
    blk_point [iblk, idx t]
  exact h.trans (V_weightsG m c o d)

theorem block_bias (c : Dev nD) (t : Fin cfg0.N) (o : Fin 256) :
    (iblk m c 10 t : FVec Ideal S1x256 .f32) (ix2 0 o) = bias m c (ix1 o) := by
  have h : (iblk m c 10 t : FVec Ideal S1x256 .f32) (ix2 0 o) = (V m c main_v25 : FVec Ideal S1x256 .f32) (ix2 0 o) := by
    blk_point [iblk, idx t]
  exact h.trans (V_bias m c o)

/-! ### One point's step -/

theorem featNext_apply (c : Dev nD) (t : Fin cfg0.N) (a : FVec Ideal S64x512 .f32) (k : Fin 64) (d : Fin 512) :
    featNext m c t a (ix2 k d) = a (ix2 k d)
      + ∑ x : Fin 4096, weight (start m c k) (stop m c k) (frame t x).val * features m c (ix2 (frame t x) d) := by
  unfold featNext
  pointwise [k0_pay16, k0_pay15, k0_pay14, k0_pay12, k0_pay13]
  refine congrArg (a (ix2 k d) + ·) (Finset.sum_congr rfl fun x _ => ?_)
  rw [(idx t).1, frame_word, block_start, block_stop, block_features, sitofp_mask _ _ (frame t x).isLt]

/-- A read of the five rows at a row and a frame given in numbers. -/
theorem read_rows (c : Dev nD) (t : Fin cfg0.N) (r : Fin 5) (x : Fin 4096) {a b : ℕ} (ha : a < 5) (hb : b < 16384)
    (h₁ : a = r.val) (h₂ : b = t.val * 4096 + x.val) :
    (iblk m c 4 t : FVec Ideal S5x16384 .f32) (ix2 ⟨a, ha⟩ ⟨b, hb⟩) = (iblk m c 4 t : FVec Ideal S5x16384 .f32) (ix2 r (frame t x)) := by
  subst h₁ h₂
  rfl

theorem first_frame (t : Fin cfg0.N) (x : Fin 4096) : k0_off1 (grid0.coords t) 1 + x.val = t.val * 4096 + x.val := by
  rw [(offsets t).2.1]

theorem first_frame' (t : Fin cfg0.N) (x : Fin 4096) : k0_off2 (grid0.coords t) 1 + x.val = t.val * 4096 + x.val := by
  rw [(offsets t).2.2.2]

/-- A point's step of the scalars, every column: five columns sum the five rows, the sixth the energy times its
    logarithm. -/
theorem scalNext_apply (c : Dev nD) (t : Fin cfg0.N) (a : FVec Ideal S64x8 .f32) (k : Fin 64) (j : Fin 8) :
    scalNext m c t a (ix2 k j) = a (ix2 k j) + ∑ x : Fin 4096, weight (start m c k) (stop m c k) (frame t x).val *
      (if h : j.val < 5 then ((iblk m c 4 t : FVec Ideal S5x16384 .f32) (ix2 ⟨j.val, h⟩ (frame t x)) : EReal)
        else if j.val - 5 < 1 then energy m c (ix1 (frame t x)) * Ideal.log (energy m c (ix1 (frame t x)) + tiny) else (0 : EReal) : EReal) := by
  unfold scalNext energyRow scalarRows
  pointwise [k0_pay1, k0_pay15, k0_pay14, k0_pay12, k0_pay13, k0_pay18, k0_pay17]
  refine congrArg (a (ix2 k j) + ·) (Finset.sum_congr rfl fun x _ => ?_)
  rw [(idx t).1, frame_word, block_start, block_stop, sitofp_mask _ _ (frame t x).isLt]
  refine congrArg (weight _ _ _ * ·) ?_
  by_cases h : j.val < 5
  · rw [dif_pos h, dif_pos h]
    exact read_rows m c t ⟨j.val, h⟩ x _ _ (by rw [(offsets t).2.2.1]; exact Nat.zero_add _) (first_frame' t x)
  · rw [dif_neg h, dif_neg h]
    by_cases h' : j.val - 5 < 1
    · rw [dif_pos h', if_pos h', read_rows m c t 0 x _ _ (by rw [(offsets t).1]; show 0 + (j.val - 5) = 0; omega)
        (first_frame t x), block_energy]
    · rw [dif_neg h', if_neg h']

theorem scalNext_energy (c : Dev nD) (t : Fin cfg0.N) (a : FVec Ideal S64x8 .f32) (k : Fin 64) :
    scalNext m c t a (ix2 k 0) = a (ix2 k 0)
      + ∑ x : Fin 4096, weight (start m c k) (stop m c k) (frame t x).val * energy m c (ix1 (frame t x)) := by
  rw [scalNext_apply]
  refine congrArg (a (ix2 k 0) + ·) (Finset.sum_congr rfl fun x _ => congrArg (weight _ _ _ * ·) ?_)
  exact (dif_pos (by decide)).trans (block_energy m c t _)

theorem scalNext_frameConf (c : Dev nD) (t : Fin cfg0.N) (a : FVec Ideal S64x8 .f32) (k : Fin 64) :
    scalNext m c t a (ix2 k 1) = a (ix2 k 1)
      + ∑ x : Fin 4096, weight (start m c k) (stop m c k) (frame t x).val * frameConf m c (ix1 (frame t x)) := by
  rw [scalNext_apply]
  refine congrArg (a (ix2 k 1) + ·) (Finset.sum_congr rfl fun x _ => congrArg (weight _ _ _ * ·) ?_)
  exact (dif_pos (by decide)).trans (block_frameConf m c t _)

theorem scalNext_stream (c : Dev nD) (t : Fin cfg0.N) (a : FVec Ideal S64x8 .f32) (k : Fin 64) (s : Fin 3) :
    scalNext m c t a (ix2 k ⟨2 + s.val, by omega⟩) = a (ix2 k ⟨2 + s.val, by omega⟩)
      + ∑ x : Fin 4096, weight (start m c k) (stop m c k) (frame t x).val * streamConf m c (ix2 (frame t x) s) := by
  rw [scalNext_apply]
  refine congrArg (a (ix2 k ⟨2 + s.val, by omega⟩) + ·) (Finset.sum_congr rfl fun x _ => congrArg (weight _ _ _ * ·) ?_)
  exact (dif_pos (Nat.add_lt_add_left s.isLt 2)).trans (block_streamConf m c t s _)

theorem scalNext_log (c : Dev nD) (t : Fin cfg0.N) (a : FVec Ideal S64x8 .f32) (k : Fin 64) :
    scalNext m c t a (ix2 k 5) = a (ix2 k 5)
      + ∑ x : Fin 4096, weight (start m c k) (stop m c k) (frame t x).val * (energy m c (ix1 (frame t x)) * Ideal.log (energy m c (ix1 (frame t x)) + tiny)) := by
  rw [scalNext_apply]
  refine congrArg (a (ix2 k 5) + ·) (Finset.sum_congr rfl fun x _ => congrArg (weight _ _ _ * ·) ?_)
  rw [dif_neg (by decide), if_pos (by decide)]

theorem peakNext_apply (c : Dev nD) (t : Fin cfg0.N) (a : FVec Ideal S64x1 .f32) (k : Fin 64) :
    peakNext m c t a (ix2 k 0) = max (a (ix2 k 0)) (Finset.univ.fold max low fun x : Fin 4096 =>
      if Inside (start m c k) (stop m c k) (frame t x).val then energy m c (ix1 (frame t x)) else low) := by
  unfold peakNext energyRow
  pointwise [k0_pay2, k0_pay15, k0_pay14, k0_pay12, k0_pay13, k0_pay18, k0_pay17]
  refine congrArg (max (a (ix2 k 0))) (congrArg (fun f => Finset.fold max low f Finset.univ) (funext fun x => ?_))
  rw [(idx t).1, frame_word, block_start, block_stop, select_mask _ _ (frame t x).isLt,
    read_rows m c t 0 x _ _ (offsets t).1 (first_frame t x), block_energy]

end Cert.KernelIdeal.Value
-- ==== Proof.Sums.lean ====
/-
  The scratch arrays after the last point: each point takes in its own 4096 frames, so after the four points the sums are
  the sums over the segment, and the running maximum is the segment's peak.
-/
module

public import proofs.«01_k».proof.Proof.Blocks
public import Idealize.ShloMosaic.Lib.Pipeline.ValueKit.Acc

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Segment

variable (m : (ℓ : Loc nD τ sig) → Buf (Elt Ideal) ℓ)

/-- A value that starts from zero and takes in, point by point, the point's frames, ends at the sum over the segment. -/
theorem total_of_blocks (s e : BitVec 32) (f : Fin 16384 → EReal) (g : (n : ℕ) → n < cfg0.N → EReal)
    (h0 : ∀ t : Fin cfg0.N, t.val % 4 = 0 → g t.val t.isLt = 0 + ∑ x : Fin 4096, weight s e (frame t x).val * f (frame t x))
    (hs : ∀ t : Fin cfg0.N, ¬t.val % 4 = 0 → g t.val t.isLt = g (t.val - 1) (pred_lt t)
      + ∑ x : Fin 4096, weight s e (frame t x).val * f (frame t x)) :
    g t0_3.val t0_3.isLt = total s e f := by
  have h := Pipeline.eq_sum_fin_of_reset_step_apply_last (fun n hn (_ : Unit) => g n hn) 4 (fun _ => (0 : EReal))
    (fun t _ => ∑ x : Fin 4096, weight s e (frame t x).val * f (frame t x)) (fun t ht _ => h0 t ht) (fun t ht _ => hs t ht)
    (le_refl 4) t0_3 rfl ()
  refine h.trans ((zero_add _).trans ?_)
  unfold total
  have h' : ∑ t : Fin cfg0.N, ∑ x : Fin 4096, weight s e (frame t x).val * f (frame t x)
      = ∑ _a : Fin 1, ∑ l : Fin 16384, weight s e l.val * f l := by
    refine Fin.sum_points_lanes_congr 4 (fun t x _ hl => ?_) rfl rfl
    have : frame t x = ⟨t.val % 4 * 4096 + x.val, hl⟩ := Fin.ext (by simp only [Nat.mod_eq_of_lt (lt_four t)])
    rw [this]
  exact h'.trans (Fin.sum_univ_one _)

theorem features_total (c : Dev nD) (k : Fin 64) (d : Fin 512) : featAt m c t0_3.val t0_3.isLt (ix2 k d)
    = total (start m c k) (stop m c k) fun n => features m c (ix2 n d) := by
  refine total_of_blocks _ _ _ (fun n hn => featAt m c n hn (ix2 k d)) (fun t ht => ?_) (fun t ht => ?_)
  · rw [featAt_first m c t ht, featNext_apply]
    pointwise [k0_pay9]
  · rw [featAt_next m c t ht, featNext_apply]

theorem energy_total (c : Dev nD) (k : Fin 64) : scalAt m c t0_3.val t0_3.isLt (ix2 k 0)
    = total (start m c k) (stop m c k) fun n => energy m c (ix1 n) := by
  refine total_of_blocks _ _ _ (fun n hn => scalAt m c n hn (ix2 k 0)) (fun t ht => ?_) (fun t ht => ?_)
  · rw [scalAt_first m c t ht, scalNext_energy]
    pointwise [k0_pay10]
  · rw [scalAt_next m c t ht, scalNext_energy]

theorem frameConf_total (c : Dev nD) (k : Fin 64) : scalAt m c t0_3.val t0_3.isLt (ix2 k 1)
    = total (start m c k) (stop m c k) fun n => frameConf m c (ix1 n) := by
  refine total_of_blocks _ _ _ (fun n hn => scalAt m c n hn (ix2 k 1)) (fun t ht => ?_) (fun t ht => ?_)
  · rw [scalAt_first m c t ht, scalNext_frameConf]
    pointwise [k0_pay10]
  · rw [scalAt_next m c t ht, scalNext_frameConf]

theorem stream_total (c : Dev nD) (k : Fin 64) (s : Fin 3) : scalAt m c t0_3.val t0_3.isLt (ix2 k ⟨2 + s.val, by omega⟩)
    = total (start m c k) (stop m c k) fun n => streamConf m c (ix2 n s) := by
  refine total_of_blocks _ _ _ (fun n hn => scalAt m c n hn (ix2 k ⟨2 + s.val, by omega⟩)) (fun t ht => ?_) (fun t ht => ?_)
  · rw [scalAt_first m c t ht, scalNext_stream]
    pointwise [k0_pay10]
  · rw [scalAt_next m c t ht, scalNext_stream]

theorem log_total (c : Dev nD) (k : Fin 64) : scalAt m c t0_3.val t0_3.isLt (ix2 k 5)
    = total (start m c k) (stop m c k) fun n => energy m c (ix1 n) * Ideal.log (energy m c (ix1 n) + tiny) := by
  refine total_of_blocks _ _ (fun n => energy m c (ix1 n) * Ideal.log (energy m c (ix1 n) + tiny))
    (fun n hn => scalAt m c n hn (ix2 k 5)) (fun t ht => ?_) (fun t ht => ?_)
  · rw [scalAt_first m c t ht, scalNext_log]
    pointwise [k0_pay10]
  · rw [scalAt_next m c t ht, scalNext_log]

/-- The running maximum lies under `z` as long as every frame taken in so far does. -/
theorem peak_le (c : Dev nD) (k : Fin 64) (z : EReal) : ∀ (n : ℕ) (hn : n < cfg0.N), peakAt m c n hn (ix2 k 0) ≤ z ↔
    ∀ (t : Fin cfg0.N) (x : Fin 4096), t.val ≤ n →
      (if Inside (start m c k) (stop m c k) (frame t x).val then energy m c (ix1 (frame t x)) else low) ≤ z
  | 0, hn => by
    rw [peakAt_first m c ⟨0, hn⟩ rfl, peakNext_apply, max_le_iff, Finset.fold_max_le]
    have h : (k0_pay11 (F := Ideal)) (ix2 k 0) = low := by pointwise [k0_pay11]
    rw [h, low_eq]
    refine ⟨fun h t x ht => ?_, fun h => ⟨bot_le, bot_le, fun x _ => h ⟨0, hn⟩ x (le_refl 0)⟩⟩
    have : t = ⟨0, hn⟩ := Fin.ext (Nat.le_zero.mp ht)
    subst this
    exact h.2.2 x (Finset.mem_univ x)
  | n + 1, hn => by
    have h4 : n + 1 < 4 := hn
    have hp : peakAt m c (n + 1) hn = peakNext m c ⟨n + 1, hn⟩ (peakAt m c n (Nat.lt_of_succ_lt hn)) :=
      peakAt_next m c ⟨n + 1, hn⟩ (by show ¬(n + 1) % 4 = 0; omega)
    rw [hp, peakNext_apply, max_le_iff, Finset.fold_max_le, peak_le c k z n (Nat.lt_of_succ_lt hn), low_eq]
    refine ⟨fun h t x ht => ?_, fun h => ⟨fun t x ht => h t x (Nat.le_succ_of_le ht), bot_le, fun x _ => h ⟨n + 1, hn⟩ x (le_refl _)⟩⟩
    by_cases htn : t.val ≤ n
    · exact h.1 t x htn
    · have : t = ⟨n + 1, hn⟩ := Fin.ext (show t.val = n + 1 by omega)
      subst this
      exact h.2.2 x (Finset.mem_univ x)

theorem energy_peak (c : Dev nD) (k : Fin 64) : peakAt m c t0_3.val t0_3.isLt (ix2 k 0)
    = peak (start m c k) (stop m c k) fun n => energy m c (ix1 n) := by
  refine eq_of_forall_ge_iff fun z => ?_
  rw [peak_le]
  unfold peak
  rw [Finset.fold_max_le, low_eq]
  refine ⟨fun h => ⟨bot_le, fun n _ => ?_⟩, fun h t x _ => h.2 (frame t x) (Finset.mem_univ _)⟩
  have hn : n.val / 4096 < 4 := by omega
  have hx : n.val % 4096 < 4096 := Nat.mod_lt _ (by norm_num)
  have h' := h ⟨n.val / 4096, hn⟩ ⟨n.val % 4096, hx⟩ (by show n.val / 4096 ≤ 3; omega)
  have : frame ⟨n.val / 4096, hn⟩ ⟨n.val % 4096, hx⟩ = n := Fin.ext (by show n.val / 4096 * 4096 + n.val % 4096 = n.val; omega)
  rwa [this] at h'

end Cert.KernelIdeal.Value
-- ==== Proof.Final.lean ====
/-
  The three arrays the launch writes: the last point writes the tokens, the confidences and the statistics from the finished
  scratch arrays, and its blocks are the whole arrays.
-/
module

public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Segment

variable (m : (ℓ : Loc nD τ sig) → Buf (Elt Ideal) ℓ)

theorem final_tokens (c : Dev nD) : (dats m 0 c).arrAt 11 (cfgs 0).N = (outsAt0 m c t0_3.val t0_3.isLt).1 := by
  refine (dats m 0 c).arrAt_eq_of_after_last 11 t0_3 (by decide +kernel) _ fun j => ?_
  blk_simp
  rw [after0_11]

theorem final_conf (c : Dev nD) : (dats m 0 c).arrAt 12 (cfgs 0).N = (outsAt0 m c t0_3.val t0_3.isLt).2.1 := by
  refine (dats m 0 c).arrAt_eq_of_after_last 12 t0_3 (by decide +kernel) _ fun j => ?_
  blk_simp
  rw [after0_12]

theorem final_stats (c : Dev nD) : (dats m 0 c).arrAt 13 (cfgs 0).N = (outsAt0 m c t0_3.val t0_3.isLt).2.2.1 := by
  refine (dats m 0 c).arrAt_eq_of_after_last 13 t0_3 (by decide +kernel) _ fun j => ?_
  blk_simp
  rw [after0_13]

/-! ### The specification at the call's arguments -/

abbrev statOf (c : Dev nD) (k : Fin 64) : Fin 8 → EReal :=
  stat (start m c k) (stop m c k) (fps m c ix0) (fun n => energy m c (ix1 n)) (fun s n => streamConf m c (ix2 n s))

abbrev confOf (c : Dev nD) (k : Fin 64) : EReal := mean (start m c k) (stop m c k) fun n => frameConf m c (ix1 n)

abbrev tokenOf (c : Dev nD) (k : Fin 64) (o : Fin 256) : EReal :=
  token (start m c k) (stop m c k) (fps m c ix0) (eventType m c (ix1 k)) (fun d n => features m c (ix2 n d))
    (fun n => energy m c (ix1 n)) (fun s n => streamConf m c (ix2 n s)) (fun x q => embTable m c (ix2 x q))
    (fun i => weights m c (ix2 o i)) (bias m c (ix1 o))

theorem conf_value (c : Dev nD) (k : Fin 64) : (outsAt0 m c t0_3.val t0_3.isLt).2.1 (ix2 k 0) = confOf m c k := by
  rw [conf_last m c t0_3 rfl]
  pointwise [k0_pay5, k0_pay12, k0_pay13, k0_pay4]
  rw [block_start, block_stop, frameConf_total, confOf, mean, length]

theorem stats_value (c : Dev nD) (k : Fin 64) (j : Fin 8) :
    statsOf m c t0_3 (scalAt m c t0_3.val t0_3.isLt) (peakAt m c t0_3.val t0_3.isLt) (ix2 k j) = statOf m c k j := by
  revert j
  unfold statsOf
  refine forall_columns ?_ ?_ ?_ ?_ ?_ ?_ ?_ ?_
  all_goals pointwise [k0_pay6, k0_pay12, k0_pay13, k0_pay4]
  · rw [block_duration, statOf, stat_duration]
  · rw [block_latency, statOf, stat_latency]
  · rw [energy_total, block_start, block_stop, statOf, stat_mean, mean, length]
  · rw [energy_peak, statOf, stat_peak]
  · rw [energy_total, log_total, statOf, stat_entropy, entropy]
  · rw [block_start, block_stop, show (2 : Fin 8) = ⟨2 + (0 : Fin 3).val, by decide⟩ from rfl, stream_total,
      statOf, stat_stream0, mean, length]
  · rw [block_start, block_stop, show (3 : Fin 8) = ⟨2 + (1 : Fin 3).val, by decide⟩ from rfl, stream_total,
      statOf, stat_stream1, mean, length]
  · rw [block_start, block_stop, show (4 : Fin 8) = ⟨2 + (2 : Fin 3).val, by decide⟩ from rfl, stream_total,
      statOf, stat_stream2, mean, length]

theorem token_value (c : Dev nD) (k : Fin 64) (o : Fin 256) :
    (outsAt0 m c t0_3.val t0_3.isLt).1 (ix2 k o) = tokenOf m c k o := by
  rw [tokens_last m c t0_3 rfl]
  pointwise [k0_pay3]
  unfold tokenOf token
  refine congrArg₂ (· + ·) (congrArg₂ (· + ·) (congrArg₂ (· + ·) ?_ ?_) ?_) (block_bias m c t0_3 o)
  · pointwise [k0_pay8, k0_pay12, k0_pay13, k0_pay4]
    refine Finset.sum_congr rfl fun d _ => ?_
    rw [block_start, block_stop, block_weightsE, features_total, mean, length]
  · refine Finset.sum_congr rfl fun j _ => ?_
    rw [stats_value, block_weightsS]
  · refine Finset.sum_congr rfl fun q _ => ?_
    rw [block_weightsG]
    refine congrArg (· * _) ?_
    pointwise [k0_pay7]
    unfold embedding
    refine Finset.sum_congr rfl fun x _ => ?_
    rw [block_type, block_embTable]
    rw [sitofp_eq]

end Cert.KernelIdeal.Value
-- ==== Proof.Results.lean ====
/-
  What a run of the kernel leaves in its five results: the launch's arrays, and what the host makes of the confidences (their
  column as a vector, and the mask of those at or above the threshold).
-/
module

public import proofs.«01_k».proof.Proof.Final

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Segment

variable (m : (ℓ : Loc nD τ sig) → Buf (Elt Ideal) ℓ)

/-! ### The five results as arrays -/

def tokens (c : Dev nD) : FVec Ideal S64x256 .f32 := fun i => tokenOf m c (i 0) (i 1)
def conf (c : Dev nD) : FVec Ideal S64 .f32 := fun i => confOf m c (i 0)
def stats (c : Dev nD) : FVec Ideal S64x8 .f32 := fun i => statOf m c (i 0) (i 1)
/-- The confidences at or above the threshold. -/
def attend (c : Dev nD) : IVec S64 1 := fun i => BitVec.ofBool (decide (Ideal.ofBits .f32 0x3E99999A#32 ≤ conf m c i))

theorem tokens_eq (c : Dev nD) : (dats m 0 c).arrAt 11 (cfgs 0).N = tokens m c := by
  rw [final_tokens]
  funext i
  rw [eq_ix2 i]
  exact token_value m c _ _

theorem stats_eq (c : Dev nD) : (dats m 0 c).arrAt 13 (cfgs 0).N = stats m c := by
  rw [final_stats, stats_last m c t0_3 rfl]
  funext i
  rw [eq_ix2 i]
  exact stats_value m c _ _

/-- The confidences as the launch writes them, when the host takes them up. -/
theorem entry_conf (c : Dev nD) :
    Pipeline.withArrays (cfgs 0).spec c (V0 m c) (fun w => (dats m 0 c).arrAt w (cfgs 0).N) (Proc.devRef .tc main_v26_1)
      = (outsAt0 m c t0_3.val t0_3.isLt).2.1 :=
  (Pipeline.withArrays_arr (cfgs 0).spec launch0.win.arr_inj c (V0 m c) (fun w => (dats m 0 c).arrAt w (cfgs 0).N) 12).trans (final_conf m c)

theorem tail_conf (c : Dev nD) : Pipeline.afterTail₀ cfgs (dats m) 0 (V0 m) [hostOps1] c main_v27 = conf m c := by
  unfold Pipeline.afterTail₀
  simp only [List.flatten_cons, List.flatten_nil, List.append_nil]
  after_results
  rw [entry_conf]
  funext i
  obtain ⟨k, rfl⟩ : ∃ k : Fin 64, i = ix1 k := ⟨i 0, eq_ix1 i⟩
  pointwise
  exact conf_value m c _

theorem tail_attend (c : Dev nD) : Pipeline.afterTail₀ cfgs (dats m) 0 (V0 m) [hostOps1] c main_v29 = attend m c := by
  unfold Pipeline.afterTail₀
  simp only [List.flatten_cons, List.flatten_nil, List.append_nil]
  after_results
  rw [entry_conf]
  funext i
  obtain ⟨k, rfl⟩ : ∃ k : Fin 64, i = ix1 k := ⟨i 0, eq_ix1 i⟩
  pointwise
  rw [conf_value]
  rfl

theorem run (ρ : Dev nD → PrngReg) : θ_run defs (onTc (τ := τ) (main (F := Ideal))) ⟨m, fun _ => 0, ρ⟩ fun r => ∀ c : Dev nD,
      r.2.mem ((c.tc : Thread nD τ).loc main_v26_0) = tokens m c
      ∧ r.2.mem ((c.tc : Thread nD τ).loc main_v29) = attend m c
      ∧ r.2.mem ((c.tc : Thread nD τ).loc main_v27) = conf m c
      ∧ r.2.mem ((c.tc : Thread nD τ).loc main_v26_2) = stats m c :=
  (θ_run defs _ _).mono (fun r h c =>
    ⟨((h c).1 11).trans (tokens_eq m c),
      ((h c).2 main_v29 (Pipeline.mem_restRefs_of _ (by decide) (by decide))).trans (tail_attend m c),
      ((h c).2 main_v27 (Pipeline.mem_restRefs_of _ (by decide) (by decide))).trans (tail_conf m c),
      ((h c).1 13).trans (stats_eq m c)⟩)
    (run_main m ρ)

end Cert.KernelIdeal.Value
-- ==== Proof.Laws.lean ====
/-
  The equations between the kernel's statistics and the references': counting a segment's frames gives its length, and the
  entropy by two sums is the entropy summed frame by frame.
-/
module

public import proofs.«01_k».proof.Proof.Spec

@[expose] public section

noncomputable section

open Idealize.ShloMosaic

namespace Segment

/-! ### Counting -/

/-- A segment inside the recording, with a frame in it. -/
structure Proper (s e : BitVec 32) : Prop where
  nonneg : 0 ≤ s.toInt
  lt : s.toInt < e.toInt
  le : e.toInt ≤ 16384

/-- The number of frames from `a` up to, not with, `b`. -/
theorem card_between {N a b : ℕ} (h : b ≤ N) :
    (Finset.univ.filter fun x : Fin N => a ≤ x.val ∧ x.val < b).card = b - a := by
  rw [← Nat.card_Ico, ← Finset.card_map Fin.valEmbedding]
  congr 1
  ext n
  simp only [Finset.mem_map, Finset.mem_filter, Finset.mem_univ, true_and, Fin.valEmbedding_apply, Finset.mem_Ico]
  constructor
  · rintro ⟨x, hx, rfl⟩
    exact hx
  · intro hn
    exact ⟨⟨n, by omega⟩, hn, rfl⟩

/-- The weights add up to the number of frames. -/
theorem sum_weight {s e : BitVec 32} (h : Proper s e) :
    ∑ x : Fin 16384, weight s e x.val = (((e.toInt - s.toInt : ℤ) : ℝ) : EReal) := by
  obtain ⟨a, ha⟩ := Int.eq_ofNat_of_zero_le h.nonneg
  obtain ⟨b, hb⟩ := Int.eq_ofNat_of_zero_le (le_trans h.nonneg h.lt.le)
  have hlt := h.lt
  have hle := h.le
  rw [ha, hb] at hlt ⊢
  rw [hb] at hle
  have hw : ∀ x : Fin 16384, weight s e x.val = if a ≤ x.val ∧ x.val < b then 1 else 0 := fun x => by
    refine if_congr ?_ rfl rfl
    unfold Inside
    rw [ha, hb]
    exact and_congr Nat.cast_le Nat.cast_lt
  rw [Finset.sum_congr rfl fun x _ => hw x, Finset.sum_boole, card_between (by omega)]
  rw [show ((b : ℤ) - (a : ℤ)) = ((b - a : ℕ) : ℤ) by omega]
  norm_cast

theorem length_eq {s e : BitVec 32} (h : Proper s e) : length s e = (((e.toInt - s.toInt : ℤ) : ℝ) : EReal) := by
  have h1 := h.nonneg
  have h2 := h.lt
  have h3 := h.le
  show (((e - s).toInt : ℝ) : EReal) = _
  rw [BitVec.toInt_sub, Int.bmod_eq_of_le (by omega) (by omega)]

/-- Counting the frames gives the length. -/
theorem count_eq {s e : BitVec 32} (h : Proper s e) : count s e = length s e := by
  unfold count
  rw [sum_weight h, length_eq h]
  apply max_eq_left
  have := h.lt
  exact_mod_cast (by omega : (1 : ℤ) ≤ e.toInt - s.toInt)

/-- A quotient by the counted frames, at least one, is a mean. -/
theorem mean_of_count {s e : BitVec 32} (h : Proper s e) (f : Fin 16384 → EReal) :
    Ideal.div (∑ x : Fin 16384, weight s e x.val * f x) (max (∑ x : Fin 16384, weight s e x.val) 1) = mean s e f := by
  unfold mean total
  rw [← count_eq h]
  rfl

/-! ### The entropy -/

theorem eps_pos : ∃ r : ℝ, 0 < r ∧ eps = (r : EReal) := by
  unfold eps
  simp [Ideal.ofBits, Ideal.ieee, -EReal.coe_mul]

theorem tiny_pos : ∃ r : ℝ, 0 < r ∧ tiny = (r : EReal) := by
  unfold tiny
  simp [Ideal.ofBits, Ideal.ieee, -EReal.coe_mul]

theorem coe_sum {N : ℕ} (f : Fin N → ℝ) : ∑ x, ((f x : ℝ) : EReal) = ((∑ x, f x : ℝ) : EReal) :=
  (map_sum (⟨⟨Real.toEReal, rfl⟩, EReal.coe_add⟩ : ℝ →+ EReal) f Finset.univ).symm

theorem log_coe {r : ℝ} (h : 0 < r) : Ideal.log (r : EReal) = ((Real.log r : ℝ) : EReal) := by
  show (if r ≤ 0 then (⊥ : EReal) else _) = _
  rw [if_neg (not_le.mpr h)]

theorem div_coe (a : ℝ) {b : ℝ} (h : 0 < b) : Ideal.div (a : EReal) (b : EReal) = ((a / b : ℝ) : EReal) := by
  unfold Ideal.div
  rw [if_neg (by exact_mod_cast h.ne'), ← EReal.coe_inv, ← EReal.coe_mul, div_eq_mul_inv]

/-- The entropy summed frame by frame: every frame's share `p` of the segment's energy, times the logarithm of the energy less
    the logarithm of the sum, both guarded. -/
def entropySum (s e : BitVec 32) (f : Fin 16384 → EReal) : EReal :=
  -∑ x : Fin 16384, weight s e x.val * Ideal.div (f x * weight s e x.val) (total s e f + eps)
    * (Ideal.log (f x + tiny) - Ideal.log (total s e f + eps))

/-- The two entropies over the reals, for any weights that are zero or one. -/
theorem entropy_real {N : ℕ} (w f l : Fin N → ℝ) (hw : ∀ x, w x * w x = w x) (S L : ℝ) (hS : S = ∑ x, w x * f x) (D : ℝ) :
    -∑ x, w x * (f x * w x / D) * (l x - L) = (S * L - ∑ x, w x * (f x * l x)) / D := by
  rw [hS, Finset.sum_mul, ← Finset.sum_sub_distrib, Finset.sum_div, ← Finset.sum_neg_distrib]
  refine Finset.sum_congr rfl fun x _ => ?_
  have h : w x * (f x * w x / D) * (l x - L) = w x * w x * (f x * (l x - L) / D) := by ring
  rw [h, hw]
  ring

/-- Energies that are numbers, none negative. -/
theorem entropy_eq (s e : BitVec 32) (f : Fin 16384 → EReal) (h0 : ∀ x, 0 ≤ f x) (h1 : ∀ x, f x < ⊤) :
    entropySum s e f = entropy s e f := by
  obtain ⟨ε, hε, heps⟩ := eps_pos
  obtain ⟨δ, hδ, htiny⟩ := tiny_pos
  obtain ⟨g, hg⟩ : ∃ g : Fin 16384 → ℝ, ∀ x, f x = (g x : EReal) :=
    ⟨fun x => (f x).toReal, fun x => (EReal.coe_toReal (h1 x).ne (lt_of_lt_of_le EReal.bot_lt_zero (h0 x)).ne').symm⟩
  have hg0 : ∀ x, 0 ≤ g x := fun x => by
    have := h0 x
    rw [hg x] at this
    exact_mod_cast this
  obtain ⟨w, hw⟩ : ∃ w : Fin 16384 → ℝ, ∀ x, weight s e x.val = (w x : EReal) ∧ 0 ≤ w x ∧ w x * w x = w x :=
    ⟨fun x => if Inside s e x.val then 1 else 0, fun x => by
      unfold weight
      by_cases h : Inside s e x.val <;> simp [h]⟩
  have htotal : total s e f = ((∑ x, w x * g x : ℝ) : EReal) := by
    unfold total
    rw [← coe_sum]
    refine Finset.sum_congr rfl fun x _ => ?_
    rw [(hw x).1, hg x, EReal.coe_mul]
  have hS : 0 ≤ ∑ x, w x * g x := Finset.sum_nonneg fun x _ => mul_nonneg (hw x).2.1 (hg0 x)
  generalize hSdef : ∑ x, w x * g x = S at htotal hS
  have hD : 0 < S + ε := by linarith
  have hsum : total s e f + eps = ((S + ε : ℝ) : EReal) := by rw [htotal, heps, EReal.coe_add]
  have hlog : ∀ x, Ideal.log (f x + tiny) = ((Real.log (g x + δ) : ℝ) : EReal) := fun x => by
    rw [hg x, htiny, ← EReal.coe_add, log_coe (by linarith [hg0 x])]
  have hterms : total s e (fun x => f x * Ideal.log (f x + tiny)) = ((∑ x, w x * (g x * Real.log (g x + δ)) : ℝ) : EReal) := by
    unfold total
    rw [← coe_sum]
    refine Finset.sum_congr rfl fun x _ => ?_
    show weight s e x.val * (f x * Ideal.log (f x + tiny)) = _
    rw [(hw x).1, hlog, hg x, EReal.coe_mul, EReal.coe_mul]
  unfold entropy entropySum
  rw [hterms, hsum, htotal, log_coe hD, ← EReal.coe_mul, ← EReal.coe_sub, div_coe _ hD,
    ← entropy_real w g (fun x => Real.log (g x + δ)) (fun x => (hw x).2.2) S (Real.log (S + ε)) hSdef.symm (S + ε),
    EReal.coe_neg, ← coe_sum]
  refine congrArg (fun z : EReal => -z) (Finset.sum_congr rfl fun x _ => ?_)
  rw [(hw x).1, hlog, hg x, ← EReal.coe_mul, div_coe _ hD, ← EReal.coe_sub, ← EReal.coe_mul, ← EReal.coe_mul]

/-! ### The embedding -/

/-- A type below 32 names one row. -/
theorem embedding_eq {ty : BitVec 32} (h0 : 0 ≤ ty.toInt) (h1 : ty.toInt < 32) (emb : Fin 32 → Fin 32 → EReal) (q : Fin 32) :
    embedding ty emb q = emb ⟨min ty.toInt.toNat (32 - 1), by omega⟩ q := by
  unfold embedding
  rw [Finset.sum_eq_single_of_mem ⟨min ty.toInt.toNat (32 - 1), by omega⟩ (Finset.mem_univ _)]
  · rw [if_pos, one_mul]
    apply BitVec.eq_of_toNat_eq
    simp only [BitVec.toNat_ofNat]
    rw [BitVec.toInt_eq_toNat_cond] at *
    split at h0 <;> omega
  · intro x _ hx
    rw [if_neg, zero_mul]
    intro h
    apply hx
    apply Fin.ext
    have := x.isLt
    have hx' : ty.toInt = x.val := by rw [h]; exact ofNat_toInt (by omega)
    show x.val = min ty.toInt.toNat (32 - 1)
    omega

/-! ### The contraction with the weights, in its three parts -/

theorem sum_parts (F : Fin 552 → EReal) :
    ∑ x : Fin 552, F x = ∑ d : Fin 512, F ⟨d.val, by omega⟩ + ∑ j : Fin 8, F ⟨512 + j.val, by omega⟩
      + ∑ q : Fin 32, F ⟨520 + q.val, by omega⟩ := by
  rw [show (∑ x : Fin 552, F x) = ∑ x : Fin (512 + 8 + 32), F x from rfl, Fin.sum_univ_add, Fin.sum_univ_add]
  rfl

end Segment
-- ==== Proof.Reference.lean ====
/-
  What the reference computes, entry by entry, in the words of the specification: its mask of frames is the segment's,
  and its number of frames is the segment's length. The entropy's column and the tokens, which depend on it, are left as the
  program states them.
-/
module

public import proofs.«01_k».proof.Proof.Gen.ReferenceIdeal.Run
public import proofs.«01_k».proof.Proof.Laws
public import Idealize.ShloMosaic.Lib.Claim
public import Idealize.ShloMosaic.Lib.Tactic.CleanTypes

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Segment

variable (m : (ℓ : Loc nD τ sig) → Buf (Elt Ideal) ℓ)

/-! ### The arguments -/

abbrev features (c : Dev nD) : FVec Ideal S16384x512 .f32 := m ((c : Thread nD τ).loc main_arg0)
abbrev energy (c : Dev nD) : FVec Ideal S16384 .f32 := m ((c : Thread nD τ).loc main_arg1)
abbrev segments (c : Dev nD) : IVec S64x2 32 := m ((c : Thread nD τ).loc main_arg2)
abbrev frameConf (c : Dev nD) : FVec Ideal S16384 .f32 := m ((c : Thread nD τ).loc main_arg3)
abbrev streamConf (c : Dev nD) : FVec Ideal S16384x3 .f32 := m ((c : Thread nD τ).loc main_arg4)
abbrev fps (c : Dev nD) : IVec S_ 32 := m ((c : Thread nD τ).loc main_arg5)
abbrev eventType (c : Dev nD) : IVec S64 32 := m ((c : Thread nD τ).loc main_arg6)
abbrev embTable (c : Dev nD) : FVec Ideal S32x32 .f32 := m ((c : Thread nD τ).loc main_arg7)
abbrev weights (c : Dev nD) : FVec Ideal S256x552 .f32 := m ((c : Thread nD τ).loc main_arg8)
abbrev bias (c : Dev nD) : FVec Ideal S256 .f32 := m ((c : Thread nD τ).loc main_arg9)

abbrev start (c : Dev nD) (k : Fin 64) : BitVec 32 := segments m c (ix2 k 0)
abbrev stop (c : Dev nD) (k : Fin 64) : BitVec 32 := segments m c (ix2 k 1)

/-! ### The specification at the arguments -/

abbrev statOf (c : Dev nD) (k : Fin 64) : Fin 8 → EReal :=
  stat (start m c k) (stop m c k) (fps m c ix0) (fun n => energy m c (ix1 n)) (fun s n => streamConf m c (ix2 n s))

abbrev confOf (c : Dev nD) (k : Fin 64) : EReal := mean (start m c k) (stop m c k) fun n => frameConf m c (ix1 n)

def conf (c : Dev nD) : FVec Ideal S64 .f32 := fun i => confOf m c (i 0)
def stats (c : Dev nD) : FVec Ideal S64x8 .f32 := fun i => statOf m c (i 0) (i 1)
def attend (c : Dev nD) : IVec S64 1 := fun i => BitVec.ofBool (decide (Ideal.ofBits .f32 0x3E99999A#32 ≤ conf m c i))

/-- Every segment is proper. -/
def Good (c : Dev nD) : Prop := ∀ k, Proper (start m c k) (stop m c k)

variable {m}

/-! ### The statistics -/

theorem stats_value {c : Dev nD} (h : Good m c) (k : Fin 64) (j : Fin 8) (hj : j ≠ 4) :
    (res_main_v72 m c : S64x8.Idx → EReal) (ix2 k j) = statOf m c k j := by
  revert j
  unfold res_main_v72
  clean_types
  apply forall_columns
  all_goals intro hj
  case h4 => exact absurd rfl hj
  all_goals clear hj
  all_goals pointwise
  all_goals try simp only [uitofp_mask, select_mask, Fin.isLt]
  all_goals unfold statOf
  · rw [stat_duration, length]
  · rw [stat_latency]
  · rw [stat_mean, ← mean_of_count (h k)]
  · rw [stat_peak]
    unfold peak
    exact congrArg Ideal.log1p (Finset.fold_congr fun x _ => by rfl)
  · rw [stat_stream0, ← mean_of_count (h k)]
  · rw [stat_stream1, ← mean_of_count (h k)]
  · rw [stat_stream2, ← mean_of_count (h k)]

/-! ### A run -/

/-- What a run of the reference leaves in its results. -/
theorem run_spec (ρ : Dev nD → PrngReg) (h : ∀ c, Good m c) :
    θ_run defs (onTc (τ := τ) (main (F := Ideal))) ⟨m, fun _ => 0, ρ⟩ fun r => ∀ c : Dev nD,
      r.2.mem ((c.tc : Thread nD τ).loc main_v81) = res_main_v81 m c
      ∧ r.2.mem ((c.tc : Thread nD τ).loc main_v83) = attend m c
      ∧ r.2.mem ((c.tc : Thread nD τ).loc main_arg6) = m ((c.tc : Thread nD τ).loc main_arg6)
      ∧ r.2.mem ((c.tc : Thread nD τ).loc main_v74) = conf m c
      ∧ r.2.mem ((c.tc : Thread nD τ).loc main_v72) = res_main_v72 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r hr c => ?_) (Value.run m ρ)
  refine ⟨(hr c).1, (hr c).2.1.trans ?_, (hr c).2.2.1, (hr c).2.2.2.1.trans ?_, (hr c).2.2.2.2.1,
    (hr c).2.2.2.2.2⟩
  · funext i
    obtain ⟨k, rfl⟩ : ∃ k : Fin 64, i = ix1 k := ⟨i 0, eq_ix1 i⟩
    pointwise
    simp only [uitofp_mask, Fin.isLt]
    rw [mean_of_count (h c k)]
    rfl
  · funext i
    obtain ⟨k, rfl⟩ : ∃ k : Fin 64, i = ix1 k := ⟨i 0, eq_ix1 i⟩
    pointwise
    simp only [uitofp_mask, Fin.isLt]
    exact mean_of_count (h c k) _

end Cert.ReferenceIdeal.Value
-- ==== Proof.Guarded.lean ====
/-
  What the guarded reference computes, entry by entry, in the words of the specification: its mask of frames is the segment's,
  its number of frames is the segment's length, its entropy is summed frame by frame, and its embedding is a row taken from the
  table.
-/
module

public import proofs.«01_k».proof.Proof.Gen.GuardedIdeal.Run
public import proofs.«01_k».proof.Proof.Laws
public import Idealize.ShloMosaic.Lib.Claim
public import Idealize.ShloMosaic.Lib.Tactic.CleanTypes

@[expose] public section

set_option maxRecDepth 16384

noncomputable section

open Idealize.ShloMosaic Idealize.ShloMosaic.TcCoe Idealize.SL.Sem

namespace Cert.GuardedIdeal.Value

open Cert.GuardedIdeal Cert.GuardedIdeal.Gen Segment

variable (m : (ℓ : Loc nD τ sig) → Buf (Elt Ideal) ℓ)

/-! ### The arguments -/

abbrev features (c : Dev nD) : FVec Ideal S16384x512 .f32 := m ((c : Thread nD τ).loc main_arg0)
abbrev energy (c : Dev nD) : FVec Ideal S16384 .f32 := m ((c : Thread nD τ).loc main_arg1)
abbrev segments (c : Dev nD) : IVec S64x2 32 := m ((c : Thread nD τ).loc main_arg2)
abbrev frameConf (c : Dev nD) : FVec Ideal S16384 .f32 := m ((c : Thread nD τ).loc main_arg3)
abbrev streamConf (c : Dev nD) : FVec Ideal S16384x3 .f32 := m ((c : Thread nD τ).loc main_arg4)
abbrev fps (c : Dev nD) : IVec S_ 32 := m ((c : Thread nD τ).loc main_arg5)
abbrev eventType (c : Dev nD) : IVec S64 32 := m ((c : Thread nD τ).loc main_arg6)
abbrev embTable (c : Dev nD) : FVec Ideal S32x32 .f32 := m ((c : Thread nD τ).loc main_arg7)
abbrev weights (c : Dev nD) : FVec Ideal S256x552 .f32 := m ((c : Thread nD τ).loc main_arg8)
abbrev bias (c : Dev nD) : FVec Ideal S256 .f32 := m ((c : Thread nD τ).loc main_arg9)

abbrev start (c : Dev nD) (k : Fin 64) : BitVec 32 := segments m c (ix2 k 0)
abbrev stop (c : Dev nD) (k : Fin 64) : BitVec 32 := segments m c (ix2 k 1)

/-! ### The specification at the arguments -/

abbrev statOf (c : Dev nD) (k : Fin 64) : Fin 8 → EReal :=
  stat (start m c k) (stop m c k) (fps m c ix0) (fun n => energy m c (ix1 n)) (fun s n => streamConf m c (ix2 n s))

abbrev confOf (c : Dev nD) (k : Fin 64) : EReal := mean (start m c k) (stop m c k) fun n => frameConf m c (ix1 n)

abbrev tokenOf (c : Dev nD) (k : Fin 64) (o : Fin 256) : EReal :=
  token (start m c k) (stop m c k) (fps m c ix0) (eventType m c (ix1 k)) (fun d n => features m c (ix2 n d))
    (fun n => energy m c (ix1 n)) (fun s n => streamConf m c (ix2 n s)) (fun x q => embTable m c (ix2 x q))
    (fun i => weights m c (ix2 o i)) (bias m c (ix1 o))

def tokens (c : Dev nD) : FVec Ideal S64x256 .f32 := fun i => tokenOf m c (i 0) (i 1)
def conf (c : Dev nD) : FVec Ideal S64 .f32 := fun i => confOf m c (i 0)
def stats (c : Dev nD) : FVec Ideal S64x8 .f32 := fun i => statOf m c (i 0) (i 1)
def attend (c : Dev nD) : IVec S64 1 := fun i => BitVec.ofBool (decide (Ideal.ofBits .f32 0x3E99999A#32 ≤ conf m c i))

/-- What the arguments have to satisfy: proper segments, types in the table, energies that are numbers and not negative. -/
structure Good (c : Dev nD) : Prop where
  proper : ∀ k, Proper (start m c k) (stop m c k)
  type_nonneg : ∀ k : Fin 64, 0 ≤ (eventType m c (ix1 k)).toInt
  type_lt : ∀ k : Fin 64, (eventType m c (ix1 k)).toInt < 32
  energy_nonneg : ∀ n : Fin 16384, 0 ≤ energy m c (ix1 n)
  energy_lt : ∀ n : Fin 16384, energy m c (ix1 n) < ⊤

variable {m}

/-! ### The statistics -/

theorem stats_value {c : Dev nD} (h : Good m c) (k : Fin 64) (j : Fin 8) :
    (res_main_v80 m c : S64x8.Idx → EReal) (ix2 k j) = statOf m c k j := by
  revert j
  unfold res_main_v80
  clean_types
  apply forall_columns
  all_goals pointwise
  all_goals try simp only [uitofp_mask, select_mask, Fin.isLt]
  all_goals unfold statOf
  · rw [stat_duration, length]
  · rw [stat_latency]
  · rw [stat_mean, ← mean_of_count (h.proper k)]
  · rw [stat_peak]
    unfold peak
    exact congrArg Ideal.log1p (Finset.fold_congr fun x _ => by rfl)
  · rw [stat_entropy, ← entropy_eq _ _ _ h.energy_nonneg h.energy_lt]
    unfold entropySum total
    with_reducible rfl
  · rw [stat_stream0, ← mean_of_count (h.proper k)]
  · rw [stat_stream1, ← mean_of_count (h.proper k)]
  · rw [stat_stream2, ← mean_of_count (h.proper k)]

/-! ### The tokens -/

/-- The record of the rows taken from the table. -/
abbrev rowDims := gather_S32x32_S64x1_S64x32_1_0_n_n_0_1_132

/-- Where the starting row of segment `k` stands in the column of starting rows. -/
theorem row_place (k : Fin 64) (q : Fin 32) (h : 0 < rowDims.startIndexMap.length) :
    rowDims.siIdx (ix2 k q) ⟨0, h⟩ = (ix2 k 0 : S64x1.Idx) :=
  funext fun b => Fin.ext (by fin_cases b <;> rfl)

/-- Row `k` of what is taken from the table: the table's row at the starting row, held inside the table. -/
theorem take_row (x : FVec Ideal S32x32 .f32) (ix : IVec S64x1 32) (k : Fin 64) (q : Fin 32) :
    Host.gather rowDims x ix (ix2 k q) = x (ix2 ⟨min (ix (ix2 k 0)).toInt.toNat (32 - 1), by omega⟩ q) := by
  refine congrArg x (funext fun a => Fin.ext ?_)
  fin_cases a
  · exact congrArg (fun i => min (ix i).toInt.toNat (32 - 1)) (row_place k q Nat.one_pos)
  · exact (Nat.zero_add _).trans rfl

/-- The three parts side by side against the weights: three sums, and the bias. -/
theorem parts_value (A : FVec Ideal S64x512 .f32) (B : FVec Ideal S64x8 .f32) (C : FVec Ideal S64x32 .f32)
    (W : FVec Ideal S256x552 .f32) (b : FVec Ideal S256 .f32) (k : Fin 64) (o : Fin 256) :
    (addf (Host.dotGeneral dot_S64x552_S552x256_S64x256_1_0_0_1_n_n none
        (concatenate S64x552 1 [⟨S64x512, A⟩, ⟨S64x8, B⟩, ⟨S64x32, C⟩] concatenates_S64x512_S64x8_S64x32_S64x552_d1)
        (transpose S552x256 [1, 0] W transposes_S256x552_S552x256_1_0))
      (broadcastInDim S64x256 ![0, 1] bcast_S1x256_S64x256_0_1 (broadcastInDim S1x256 ![1] bcast_S256_S1x256_1 b))
      : S64x256.Idx → EReal) (ix2 k o)
      = ∑ d : Fin 512, A (ix2 k d) * W (ix2 o ⟨d.val, by omega⟩) + ∑ j : Fin 8, B (ix2 k j) * W (ix2 o ⟨512 + j.val, by omega⟩)
        + ∑ q : Fin 32, C (ix2 k q) * W (ix2 o ⟨520 + q.val, by omega⟩) + b (ix1 o) := by
  pointwise
  rw [sum_parts]
  refine congrArg (· + b (ix1 o)) (congr (congrArg (fun x y : EReal => x + y) (congr (congrArg (fun x y : EReal => x + y)
    (Finset.sum_congr rfl fun d _ => ?_)) (Finset.sum_congr rfl fun j _ => ?_))) (Finset.sum_congr rfl fun q _ => ?_))
  · rw [dif_pos d.isLt]
  · have h : 512 + j.val - 512 = j.val := by omega
    rw [dif_neg (by simp), dif_pos (by simp)]
    simp only [h]
  · have h : 520 + q.val - 512 - 8 = q.val := by omega
    rw [dif_neg (by simp only [not_lt]; omega), dif_neg (by simp only [not_lt]; omega)]
    simp only [h]

/-- A type in the table is its own row: it is not moved, it passes the check, and the row is the embedding's. -/
theorem row_type {ty : BitVec 32} (h0 : 0 ≤ ty.toInt) (h1 : ty.toInt < 32) :
    IntOp.cmpi .slt ty 0#32 = 0#1 ∧ IntOp.cmpi .sge ty 0#32 = 1#1 ∧ IntOp.cmpi .sle ty 31#32 = 1#1 := by
  have e0 : (0#32 : BitVec 32).toInt = 0 := rfl
  have e31 : (31#32 : BitVec 32).toInt = 31 := rfl
  rw [WordCmp.cmpi_slt_eq, WordCmp.cmpi_sge_eq, WordCmp.cmpi_sle_eq, e0, e31]
  refine ⟨?_, ?_, ?_⟩
  · rw [decide_eq_false (by omega)]
    rfl
  · rw [decide_eq_true h0]
    rfl
  · rw [decide_eq_true (by omega)]
    rfl

theorem tokens_value {c : Dev nD} (h : Good m c) (k : Fin 64) (o : Fin 256) :
    (res_main_v89 m c : S64x256.Idx → EReal) (ix2 k o) = tokenOf m c k o := by
  unfold res_main_v89
  refine (parts_value _ _ _ _ _ k o).trans ?_
  unfold tokenOf token
  refine congrArg (· + bias m c (ix1 o)) (congr (congrArg (fun x y : EReal => x + y) (congr (congrArg (fun x y : EReal => x + y)
    (Finset.sum_congr rfl fun d _ => ?_)) (Finset.sum_congr rfl fun j _ => ?_))) (Finset.sum_congr rfl fun q _ => ?_))
  · refine congrArg (· * weights m c (ix2 o ⟨d.val, by omega⟩)) ?_
    clean_types
    pointwise
    simp only [uitofp_mask, Fin.isLt]
    exact mean_of_count (h.proper k) _
  · refine congrArg (· * weights m c (ix2 o ⟨512 + j.val, by omega⟩)) ?_
    refine Eq.trans ?_ (stats_value h k j)
    unfold res_main_v80
    rfl
  · refine congrArg (· * weights m c (ix2 o ⟨520 + q.val, by omega⟩)) ?_
    obtain ⟨t0, t1, t2⟩ := row_type (h.type_nonneg k) (h.type_lt k)
    clean_types
    pointwise
    rw [take_row]
    pointwise
    have e : Scalar.select (IntOp.cmpi .slt (eventType m c (ix1 k)) 0#32) (IntOp.addi (eventType m c (ix1 k)) 32#32)
        (eventType m c (ix1 k)) = eventType m c (ix1 k) := by
      rw [t0]
      rfl
    simp only [e, t1, t2]
    rw [embedding_eq (h.type_nonneg k) (h.type_lt k), Finset.univ_unique, Finset.fold_singleton]
    rfl

/-! ### A run -/

/-- What a run of the guarded reference leaves in its results. -/
theorem run_spec (ρ : Dev nD → PrngReg) (h : ∀ c, Good m c) :
    θ_run defs (onTc (τ := τ) (main (F := Ideal))) ⟨m, fun _ => 0, ρ⟩ fun r => ∀ c : Dev nD,
      r.2.mem ((c.tc : Thread nD τ).loc main_v89) = tokens m c
      ∧ r.2.mem ((c.tc : Thread nD τ).loc main_v91) = attend m c
      ∧ r.2.mem ((c.tc : Thread nD τ).loc main_arg6) = m ((c.tc : Thread nD τ).loc main_arg6)
      ∧ r.2.mem ((c.tc : Thread nD τ).loc main_v82) = conf m c
      ∧ r.2.mem ((c.tc : Thread nD τ).loc main_v80) = stats m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r hr c => ?_) (Value.run m ρ)
  refine ⟨(hr c).1.trans ?_, (hr c).2.1.trans ?_, (hr c).2.2.1, (hr c).2.2.2.1.trans ?_, (hr c).2.2.2.2.1.trans ?_,
    (hr c).2.2.2.2.2⟩
  · funext i
    rw [eq_ix2 i]
    exact tokens_value (h c) _ _
  · funext i
    obtain ⟨k, rfl⟩ : ∃ k : Fin 64, i = ix1 k := ⟨i 0, eq_ix1 i⟩
    pointwise
    simp only [uitofp_mask, Fin.isLt]
    rw [mean_of_count ((h c).proper k)]
    rfl
  · funext i
    obtain ⟨k, rfl⟩ : ∃ k : Fin 64, i = ix1 k := ⟨i 0, eq_ix1 i⟩
    pointwise
    simp only [uitofp_mask, Fin.isLt]
    exact mean_of_count ((h c).proper k) _
  · funext i
    rw [eq_ix2 i]
    exact stats_value (h c) _ _

end Cert.GuardedIdeal.Value
-- ==== Proof.Pairs.lean ====
/-
  From memories that agree on the arguments the references' arrays are the kernel's.
-/
module

public import proofs.«01_k».proof.Proof.Results
public import proofs.«01_k».proof.Proof.Reference
public import proofs.«01_k».proof.Proof.Guarded

@[expose] public section

noncomputable section

open Idealize.ShloMosaic Idealize.ShloMosaic.TcCoe Idealize.SL.Sem

namespace Cert.Pairs

section Guarded

variable (m : (ℓ : Loc KernelIdeal.nD KernelIdeal.τ KernelIdeal.sig) → Buf (Elt Ideal) ℓ)
  (m' : (ℓ : Loc GuardedIdeal.nD GuardedIdeal.τ GuardedIdeal.sig) → Buf (Elt Ideal) ℓ) (c : Dev KernelIdeal.nD)

theorem guarded_tokens (h0 : GuardedIdeal.Value.features m' c = KernelIdeal.Value.features m c)
    (h1 : GuardedIdeal.Value.energy m' c = KernelIdeal.Value.energy m c)
    (h2 : GuardedIdeal.Value.segments m' c = KernelIdeal.Value.segments m c)
    (h4 : GuardedIdeal.Value.streamConf m' c = KernelIdeal.Value.streamConf m c)
    (h5 : GuardedIdeal.Value.fps m' c = KernelIdeal.Value.fps m c)
    (h6 : GuardedIdeal.Value.eventType m' c = KernelIdeal.Value.eventType m c)
    (h7 : GuardedIdeal.Value.embTable m' c = KernelIdeal.Value.embTable m c)
    (h8 : GuardedIdeal.Value.weights m' c = KernelIdeal.Value.weights m c)
    (h9 : GuardedIdeal.Value.bias m' c = KernelIdeal.Value.bias m c) :
    GuardedIdeal.Value.tokens m' c = KernelIdeal.Value.tokens m c := by
  funext i
  unfold GuardedIdeal.Value.tokens KernelIdeal.Value.tokens GuardedIdeal.Value.tokenOf KernelIdeal.Value.tokenOf
    GuardedIdeal.Value.start GuardedIdeal.Value.stop KernelIdeal.Value.start KernelIdeal.Value.stop
  rw [h0, h1, h2, h4, h5, h6, h7, h8, h9]

theorem guarded_stats (h1 : GuardedIdeal.Value.energy m' c = KernelIdeal.Value.energy m c)
    (h2 : GuardedIdeal.Value.segments m' c = KernelIdeal.Value.segments m c)
    (h4 : GuardedIdeal.Value.streamConf m' c = KernelIdeal.Value.streamConf m c)
    (h5 : GuardedIdeal.Value.fps m' c = KernelIdeal.Value.fps m c) :
    GuardedIdeal.Value.stats m' c = KernelIdeal.Value.stats m c := by
  funext i
  unfold GuardedIdeal.Value.stats KernelIdeal.Value.stats GuardedIdeal.Value.statOf KernelIdeal.Value.statOf
    GuardedIdeal.Value.start GuardedIdeal.Value.stop KernelIdeal.Value.start KernelIdeal.Value.stop
  rw [h1, h2, h4, h5]

theorem guarded_conf (h2 : GuardedIdeal.Value.segments m' c = KernelIdeal.Value.segments m c)
    (h3 : GuardedIdeal.Value.frameConf m' c = KernelIdeal.Value.frameConf m c) :
    GuardedIdeal.Value.conf m' c = KernelIdeal.Value.conf m c := by
  funext i
  unfold GuardedIdeal.Value.conf KernelIdeal.Value.conf GuardedIdeal.Value.confOf KernelIdeal.Value.confOf
    GuardedIdeal.Value.start GuardedIdeal.Value.stop KernelIdeal.Value.start KernelIdeal.Value.stop
  rw [h2, h3]

theorem guarded_attend (h : GuardedIdeal.Value.conf m' c = KernelIdeal.Value.conf m c) :
    GuardedIdeal.Value.attend m' c = KernelIdeal.Value.attend m c := by
  unfold GuardedIdeal.Value.attend KernelIdeal.Value.attend
  rw [h]

end Guarded

section Reference

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

theorem reference_stats (h1 : ReferenceIdeal.Value.energy m' c = KernelIdeal.Value.energy m c)
    (h2 : ReferenceIdeal.Value.segments m' c = KernelIdeal.Value.segments m c)
    (h4 : ReferenceIdeal.Value.streamConf m' c = KernelIdeal.Value.streamConf m c)
    (h5 : ReferenceIdeal.Value.fps m' c = KernelIdeal.Value.fps m c) (k : Fin 64) (j : Fin 8) :
    ReferenceIdeal.Value.statOf m' c k j = KernelIdeal.Value.statOf m c k j := by
  unfold ReferenceIdeal.Value.statOf KernelIdeal.Value.statOf
    ReferenceIdeal.Value.start ReferenceIdeal.Value.stop KernelIdeal.Value.start KernelIdeal.Value.stop
  rw [h1, h2, h4, h5]

theorem reference_conf (h2 : ReferenceIdeal.Value.segments m' c = KernelIdeal.Value.segments m c)
    (h3 : ReferenceIdeal.Value.frameConf m' c = KernelIdeal.Value.frameConf m c) :
    ReferenceIdeal.Value.conf m' c = KernelIdeal.Value.conf m c := by
  funext i
  unfold ReferenceIdeal.Value.conf KernelIdeal.Value.conf ReferenceIdeal.Value.confOf KernelIdeal.Value.confOf
    ReferenceIdeal.Value.start ReferenceIdeal.Value.stop KernelIdeal.Value.start KernelIdeal.Value.stop
  rw [h2, h3]

theorem reference_attend (h : ReferenceIdeal.Value.conf m' c = KernelIdeal.Value.conf m c) :
    ReferenceIdeal.Value.attend m' c = KernelIdeal.Value.attend m c := by
  unfold ReferenceIdeal.Value.attend KernelIdeal.Value.attend
  rw [h]

end Reference

end Cert.Pairs
-- ==== Proof.Assumptions.lean ====
/-
  What the preconditions and the mask of the claims say, entry by entry, in plain words: proper segments, types in the table,
  energies that are numbers and not negative; and the mask leaves out the tokens and the entropy's column.
-/
module

public import proofs.«01_k».proof.Proof.Gen.Pre_segments_valid
public import proofs.«01_k».proof.Proof.Gen.Pre_inputs_valid
public import proofs.«01_k».proof.Proof.Gen.On_but_entropy
public import proofs.«01_k».proof.Proof.Laws

@[expose] public section

noncomputable section

open Idealize.ShloMosaic

namespace Segment

theorem both_set {a b : BitVec 1} (h : IntOp.andi a b = 1#1) : a = 1#1 ∧ b = 1#1 := by
  revert a b
  decide

theorem of_bit {p : Prop} [Decidable p] (h : BitVec.ofBool (decide p) = 1#1) : p := by
  by_contra hp
  rw [decide_eq_false hp] at h
  exact absurd h (by decide)

theorem infinity : Ideal.ofBits .f32 0x7F800000#32 = ⊤ := by
  simp [Ideal.ofBits, Ideal.ieee]

/-- Three bits say that a segment is proper. -/
theorem proper_of_bits {s e : BitVec 32}
    (h : IntOp.andi (IntOp.andi (IntOp.cmpi .sge s 0#32) (IntOp.cmpi .slt s e)) (IntOp.cmpi .sle e 16384#32) = 1#1) : Proper s e := by
  obtain ⟨h12, h3⟩ := both_set h
  obtain ⟨h1, h2⟩ := both_set h12
  rw [WordCmp.cmpi_sge_eq] at h1
  rw [WordCmp.cmpi_slt_eq] at h2
  rw [WordCmp.cmpi_sle_eq] at h3
  exact ⟨of_bit h1, of_bit h2, of_bit h3⟩

end Segment

open Segment

section Segments

open Cert.Pre_segments_valid

/-- `segments_valid`: every segment is proper. -/
theorem Cert.Pre_segments_valid.proper [Facts] (A0 : FVec Ideal S16384x512 .f32) (A1 : FVec Ideal S16384 .f32) (A2 : IVec S64x2 32)
    (A3 : FVec Ideal S16384 .f32) (A4 : FVec Ideal S16384x3 .f32) (A5 : IVec S_ 32) (A6 : IVec S64 32) (A7 : FVec Ideal S32x32 .f32)
    (A8 : FVec Ideal S256x552 .f32) (A9 : FVec Ideal S256 .f32)
    (h : fn (F := Ideal) A0 A1 A2 A3 A4 A5 A6 A7 A8 A9 = fun _ => 1#1) (k : Fin 64) : Proper (A2 (ix2 k 0)) (A2 (ix2 k 1)) := by
  apply proper_of_bits
  rw [← congrFun h (ix1 k)]
  unfold fn
  pointwise

end Segments

section Inputs

open Cert.Pre_inputs_valid

variable [Facts] (A0 : FVec Ideal S16384x512 .f32) (A1 : FVec Ideal S16384 .f32) (A2 : IVec S64x2 32)
  (A3 : FVec Ideal S16384 .f32) (A4 : FVec Ideal S16384x3 .f32) (A5 : IVec S_ 32) (A6 : IVec S64 32) (A7 : FVec Ideal S32x32 .f32)
  (A8 : FVec Ideal S256x552 .f32) (A9 : FVec Ideal S256 .f32)

/-- The first half of `inputs_valid`: every segment is proper, every type is in the table. -/
theorem Cert.Pre_inputs_valid.segment (h : (fn (F := Ideal) A0 A1 A2 A3 A4 A5 A6 A7 A8 A9).1 = fun _ => 1#1) (k : Fin 64) :
    Proper (A2 (ix2 k 0)) (A2 (ix2 k 1)) ∧ 0 ≤ (A6 (ix1 k)).toInt ∧ (A6 (ix1 k)).toInt < 32 := by
  have e : (fn (F := Ideal) A0 A1 A2 A3 A4 A5 A6 A7 A8 A9).1 (ix1 k)
      = IntOp.andi (IntOp.andi (IntOp.andi (IntOp.andi (IntOp.cmpi .sge (A2 (ix2 k 0)) 0#32)
          (IntOp.cmpi .slt (A2 (ix2 k 0)) (A2 (ix2 k 1)))) (IntOp.cmpi .sle (A2 (ix2 k 1)) 16384#32))
          (IntOp.cmpi .sge (A6 (ix1 k)) 0#32)) (IntOp.cmpi .slt (A6 (ix1 k)) 32#32) := by
    unfold fn fn_part1
    pointwise
  rw [h] at e
  obtain ⟨h123, h5⟩ := both_set e.symm
  obtain ⟨h12, h4⟩ := both_set h123
  rw [WordCmp.cmpi_sge_eq] at h4
  rw [WordCmp.cmpi_slt_eq] at h5
  exact ⟨proper_of_bits h12, of_bit h4, of_bit h5⟩

/-- The second half of `inputs_valid`: every energy is a number and not negative. -/
theorem Cert.Pre_inputs_valid.energy (h : (fn (F := Ideal) A0 A1 A2 A3 A4 A5 A6 A7 A8 A9).2 = fun _ => 1#1) (n : Fin 16384) :
    0 ≤ A1 (ix1 n) ∧ A1 (ix1 n) < ⊤ := by
  have e : (fn (F := Ideal) A0 A1 A2 A3 A4 A5 A6 A7 A8 A9).2 (ix1 n)
      = IntOp.andi (BitVec.ofBool (decide (0 ≤ A1 (ix1 n)))) (BitVec.ofBool (decide (A1 (ix1 n) < ⊤))) := by
    rw [← infinity]
    unfold fn fn_part1
    pointwise
  rw [h] at e
  obtain ⟨h1, h2⟩ := both_set e.symm
  exact ⟨of_bit h1, of_bit h2⟩

end Inputs

section Mask

open Cert.On_but_entropy

variable [Facts] (A0 : FVec Ideal S16384x512 .f32) (A1 : FVec Ideal S16384 .f32) (A2 : IVec S64x2 32)
  (A3 : FVec Ideal S16384 .f32) (A4 : FVec Ideal S16384x3 .f32) (A5 : IVec S_ 32) (A6 : IVec S64 32) (A7 : FVec Ideal S32x32 .f32)
  (A8 : FVec Ideal S256x552 .f32) (A9 : FVec Ideal S256 .f32)

/-- No token is in the mask. -/
theorem Cert.On_but_entropy.no_token (k : Fin 64) (o : Fin 256) : (fn (F := Ideal) A0 A1 A2 A3 A4 A5 A6 A7 A8 A9).1 (ix2 k o) ≠ 1#1 := by
  have e : (fn (F := Ideal) A0 A1 A2 A3 A4 A5 A6 A7 A8 A9).1 (ix2 k o) = 0#1 := by
    unfold fn
    pointwise
  rw [e]
  decide

/-- The entropy's column is not in the mask. -/
theorem Cert.On_but_entropy.column {k : Fin 64} {j : Fin 8}
    (h : (fn (F := Ideal) A0 A1 A2 A3 A4 A5 A6 A7 A8 A9).2.2.2.2 (ix2 k j) = 1#1) : j ≠ 4 := by
  have e : (fn (F := Ideal) A0 A1 A2 A3 A4 A5 A6 A7 A8 A9).2.2.2.2 (ix2 k j) = IntOp.cmpi .ne (BitVec.ofNat 32 j.val) 4#32 := by
    unfold fn
    pointwise
  rintro rfl
  rw [e] at h
  exact absurd h (by decide)

end Mask
-- ==== Proof.Near.lean ====
/-
  The kernel's entropy and reference.py's: their guards differ, and so do they, by at most `1e-6` for each frame of the segment.
-/
module

public import proofs.«01_k».proof.Proof.Laws

@[expose] public section

noncomputable section

open Idealize.ShloMosaic

namespace Segment

/-- The entropy with the guard inside the logarithm of the quotient: every frame's share `p` of the segment's energy, times the
    logarithm of `p + 1e-6`. -/
def entropyShare (s e : BitVec 32) (f : Fin 16384 → EReal) : EReal :=
  -∑ x : Fin 16384, weight s e x.val * Ideal.div (f x * weight s e x.val) (total s e f + eps)
    * Ideal.log (Ideal.div (f x * weight s e x.val) (total s e f + eps) + eps)

/-! ### The two guards -/

theorem eps_value : eps = ((8796093 / 2 ^ 43 : ℝ) : EReal) := by
  unfold eps
  simp [Ideal.ofBits, Ideal.ieee, -EReal.coe_mul]
  norm_num

theorem tiny_value : tiny = ((10633824 / 2 ^ 123 : ℝ) : EReal) := by
  unfold tiny
  simp [Ideal.ofBits, Ideal.ieee, -EReal.coe_mul]
  norm_num

/-- Both guards are positive, and `1e-30` is below the square of `1e-6`. -/
theorem guards : ∃ ε δ : ℝ, eps = (ε : EReal) ∧ tiny = (δ : EReal) ∧ 0 < ε ∧ 0 < δ ∧ δ ≤ ε * ε :=
  ⟨_, _, eps_value, tiny_value, by norm_num, by norm_num, by norm_num⟩

/-! ### One frame -/

/-- A share `p` times the logarithms' difference lies between zero and the greater guard. -/
theorem share_bound {p ε q : ℝ} (hp : 0 ≤ p) (hq : 0 < q) (hqε : q ≤ ε) :
    0 ≤ p * (Real.log (p + ε) - Real.log (p + q)) ∧ p * (Real.log (p + ε) - Real.log (p + q)) ≤ ε := by
  have hpq : 0 < p + q := by linarith
  have hpe : 0 < p + ε := by linarith
  constructor
  · exact mul_nonneg hp (sub_nonneg.mpr (Real.log_le_log hpq (by linarith)))
  · rw [← Real.log_div hpe.ne' hpq.ne']
    have h1 : Real.log ((p + ε) / (p + q)) ≤ (p + ε) / (p + q) - 1 := Real.log_le_sub_one_of_pos (div_pos hpe hpq)
    have h2 : (p + ε) / (p + q) - 1 = (ε - q) / (p + q) := by
      field_simp
      ring
    have h3 : p * ((ε - q) / (p + q)) ≤ ε - q := by
      rw [← mul_div_assoc, div_le_iff₀ hpq]
      nlinarith
    calc p * Real.log ((p + ε) / (p + q)) ≤ p * ((ε - q) / (p + q)) := mul_le_mul_of_nonneg_left (h2 ▸ h1) hp
      _ ≤ ε - q := h3
      _ ≤ ε := by linarith

/-- The same of one frame of energy `g` in a segment of guarded energy `D`. -/
theorem frame_bound {g D ε δ : ℝ} (hg : 0 ≤ g) (hε : 0 < ε) (hδ : 0 < δ) (h : δ ≤ ε * ε) (hD : ε ≤ D) :
    0 ≤ g / D * (Real.log (g / D + ε) - (Real.log (g + δ) - Real.log D))
      ∧ g / D * (Real.log (g / D + ε) - (Real.log (g + δ) - Real.log D)) ≤ ε := by
  have hD0 : 0 < D := lt_of_lt_of_le hε hD
  have hlog : Real.log (g + δ) - Real.log D = Real.log (g / D + δ / D) := by
    rw [← add_div, Real.log_div (by linarith) hD0.ne']
  rw [hlog]
  refine share_bound (div_nonneg hg hD0.le) (div_pos hδ hD0) ?_
  rw [div_le_iff₀ hD0]
  nlinarith

/-! ### A segment -/

/-- The two entropies over the reals, for weights that are zero or one. -/
theorem entropy_near_real {N : ℕ} (w g : Fin N → ℝ) (hw : ∀ x, w x = 0 ∨ w x = 1) (hg : ∀ x, 0 ≤ g x) {D ε δ : ℝ} (hε : 0 < ε)
    (hδ : 0 < δ) (h : δ ≤ ε * ε) (hD : ε ≤ D) :
    -∑ x, w x * (g x * w x / D) * Real.log (g x * w x / D + ε) ≤ -∑ x, w x * (g x * w x / D) * (Real.log (g x + δ) - Real.log D)
      ∧ -∑ x, w x * (g x * w x / D) * (Real.log (g x + δ) - Real.log D)
        ≤ -∑ x, w x * (g x * w x / D) * Real.log (g x * w x / D + ε) + ε * ∑ x, w x := by
  have key : ∀ x, 0 ≤ w x * (g x * w x / D) * Real.log (g x * w x / D + ε) - w x * (g x * w x / D) * (Real.log (g x + δ) - Real.log D)
      ∧ w x * (g x * w x / D) * Real.log (g x * w x / D + ε) - w x * (g x * w x / D) * (Real.log (g x + δ) - Real.log D) ≤ ε * w x := by
    intro x
    rcases hw x with h0 | h1
    · rw [h0]
      simp
    · rw [h1, mul_one, one_mul, mul_one, ← mul_sub]
      exact frame_bound (hg x) hε hδ h hD
  have lo := Finset.sum_nonneg fun x (_ : x ∈ Finset.univ) => (key x).1
  have hi := Finset.sum_le_sum fun x (_ : x ∈ Finset.univ) => (key x).2
  rw [Finset.sum_sub_distrib] at lo hi
  rw [← Finset.mul_sum] at hi
  constructor <;> linarith

/-- Energies that are numbers, none negative: reference.py's entropy is at most the kernel's, and the kernel's is at most
    reference.py's and `1e-6` for each frame. -/
theorem entropy_near {s e : BitVec 32} (hp : Proper s e) (f : Fin 16384 → EReal) (h0 : ∀ x, 0 ≤ f x) (h1 : ∀ x, f x < ⊤) :
    ∃ a b c : ℝ, entropyShare s e f = (a : EReal) ∧ entropy s e f = (b : EReal) ∧ entropyShare s e f + eps * length s e = (c : EReal)
      ∧ a ≤ b ∧ b ≤ c := by
  obtain ⟨ε, δ, heps, htiny, hε, hδ, hδε⟩ := guards
  obtain ⟨g, hg⟩ : ∃ g : Fin 16384 → ℝ, ∀ x, f x = (g x : EReal) :=
    ⟨fun x => (f x).toReal, fun x => (EReal.coe_toReal (h1 x).ne (lt_of_lt_of_le EReal.bot_lt_zero (h0 x)).ne').symm⟩
  have hg0 : ∀ x, 0 ≤ g x := fun x => by
    have := h0 x
    rw [hg x] at this
    exact_mod_cast this
  obtain ⟨w, hw⟩ : ∃ w : Fin 16384 → ℝ, ∀ x, weight s e x.val = (w x : EReal) ∧ (w x = 0 ∨ w x = 1) :=
    ⟨fun x => if Inside s e x.val then 1 else 0, fun x => by
      unfold weight
      by_cases h : Inside s e x.val <;> simp [h]⟩
  have hw0 : ∀ x, 0 ≤ w x := fun x => by rcases (hw x).2 with h | h <;> rw [h] <;> norm_num
  have htotal : total s e f = ((∑ x, w x * g x : ℝ) : EReal) := by
    unfold total
    rw [← coe_sum]
    refine Finset.sum_congr rfl fun x _ => ?_
    rw [(hw x).1, hg x, EReal.coe_mul]
  have hS : 0 ≤ ∑ x, w x * g x := Finset.sum_nonneg fun x _ => mul_nonneg (hw0 x) (hg0 x)
  generalize ∑ x, w x * g x = S at htotal hS
  have hD : 0 < S + ε := by linarith
  have hsum : total s e f + eps = ((S + ε : ℝ) : EReal) := by rw [htotal, heps, EReal.coe_add]
  have hlength : length s e = ((∑ x, w x : ℝ) : EReal) := by
    rw [length_eq hp, ← sum_weight hp, ← coe_sum]
    exact Finset.sum_congr rfl fun x _ => (hw x).1
  have hshare : entropyShare s e f = ((-∑ x, w x * (g x * w x / (S + ε)) * Real.log (g x * w x / (S + ε) + ε) : ℝ) : EReal) := by
    unfold entropyShare
    rw [hsum, EReal.coe_neg, ← coe_sum]
    refine congrArg (fun z : EReal => -z) (Finset.sum_congr rfl fun x _ => ?_)
    have hq : 0 ≤ g x * w x / (S + ε) := div_nonneg (mul_nonneg (hg0 x) (hw0 x)) hD.le
    rw [(hw x).1, hg x, ← EReal.coe_mul, div_coe _ hD, heps, ← EReal.coe_add, log_coe (by linarith), ← EReal.coe_mul, ← EReal.coe_mul]
  have hframes : entropy s e f = ((-∑ x, w x * (g x * w x / (S + ε)) * (Real.log (g x + δ) - Real.log (S + ε)) : ℝ) : EReal) := by
    rw [← entropy_eq s e f h0 h1]
    unfold entropySum
    rw [hsum, EReal.coe_neg, ← coe_sum]
    refine congrArg (fun z : EReal => -z) (Finset.sum_congr rfl fun x _ => ?_)
    rw [(hw x).1, hg x, ← EReal.coe_mul, div_coe _ hD, htiny, ← EReal.coe_add, log_coe (by linarith [hg0 x]), log_coe hD,
      ← EReal.coe_sub, ← EReal.coe_mul, ← EReal.coe_mul]
  obtain ⟨lo, hi⟩ := entropy_near_real w g (fun x => (hw x).2) hg0 hε hδ hδε (by linarith : ε ≤ S + ε)
  exact ⟨_, _, _, hshare, hframes, by rw [hshare, hlength, heps, ← EReal.coe_mul, ← EReal.coe_add], lo, hi⟩

/-! ### Under the logarithm -/

theorem log1p_mono {a b : ℝ} (h : a ≤ b) : Ideal.log1p (a : EReal) ≤ Ideal.log1p (b : EReal) := by
  show Ideal.log (1 + (a : EReal)) ≤ Ideal.log (1 + (b : EReal))
  have one : (1 : EReal) = ((1 : ℝ) : EReal) := by norm_cast
  rw [one, ← EReal.coe_add, ← EReal.coe_add]
  by_cases ha : 0 < 1 + a
  · rw [log_coe ha, log_coe (by linarith)]
    exact_mod_cast Real.log_le_log ha (by linarith)
  · have e : Ideal.log ((1 + a : ℝ) : EReal) = ⊥ := by
      show (if 1 + a ≤ 0 then (⊥ : EReal) else _) = _
      rw [if_pos (not_lt.mp ha)]
    rw [e]
    exact bot_le

/-- The entropy's column between reference.py's and the same with `1e-6` more for each frame. -/
theorem entropy_column {s e : BitVec 32} (hp : Proper s e) (f : Fin 16384 → EReal) (h0 : ∀ x, 0 ≤ f x) (h1 : ∀ x, f x < ⊤) :
    Ideal.log1p (entropyShare s e f) ≤ Ideal.log1p (entropy s e f)
      ∧ Ideal.log1p (entropy s e f) ≤ Ideal.log1p (entropyShare s e f + eps * length s e) := by
  obtain ⟨a, b, c, ha, hb, hc, hab, hbc⟩ := entropy_near hp f h0 h1
  rw [hc, ha, hb]
  exact ⟨log1p_mono hab, log1p_mono hbc⟩

end Segment
-- ==== Proof.Postcondition.lean ====
/-
  The postcondition `near_reference`, entry by entry, in the words of the specification: the tokens project the means, the
  statistics and the types' rows; the entropy's column lies between reference.py's and the same with `1e-6` more for each frame.
-/
module

public import proofs.«01_k».proof.Post_near_reference
public import proofs.«01_k».proof.Proof.Near
public import proofs.«01_k».proof.Proof.Guarded
public import proofs.«01_k».proof.Proof.Results

@[expose] public section

set_option maxRecDepth 16384

noncomputable section

open Idealize.ShloMosaic

namespace Cert.Post_near_reference

open Segment

/-- The side conditions of the postcondition: each is a comparison of shapes. -/
theorem shapes : Facts := by
  constructor <;> decide

theorem set_bit {p : Prop} [Decidable p] (h : p) : BitVec.ofBool (decide p) = 1#1 := by
  rw [decide_eq_true h]
  rfl

variable [Facts] (A0 : FVec Ideal S16384x512 .f32) (A1 : FVec Ideal S16384 .f32) (A2 : IVec S64x2 32)
  (A3 : FVec Ideal S16384 .f32) (A4 : FVec Ideal S16384x3 .f32) (A5 : IVec S_ 32) (A6 : IVec S64 32) (A7 : FVec Ideal S32x32 .f32)
  (A8 : FVec Ideal S256x552 .f32) (A9 : FVec Ideal S256 .f32) (B0 : FVec Ideal S64x256 .f32) (B1 : IVec S64 1) (B2 : IVec S64 32)
  (B3 : FVec Ideal S64 .f32) (B4 : FVec Ideal S64x8 .f32)

/-! ### The entropy's column -/

theorem entropy_low (k : Fin 64) : (fn (F := Ideal) A0 A1 A2 A3 A4 A5 A6 A7 A8 A9 B0 B1 B2 B3 B4).2.1 (ix1 k)
    = BitVec.ofBool (decide (Ideal.log1p (entropyShare (A2 (ix2 k 0)) (A2 (ix2 k 1)) fun n => A1 (ix1 n)) ≤ B4 (ix2 k 4))) := by
  unfold fn fn_part1 fn_part2
  pointwise
  simp only [uitofp_mask, Fin.isLt]
  unfold entropyShare total
  with_reducible rfl

theorem entropy_high (k : Fin 64) : (fn (F := Ideal) A0 A1 A2 A3 A4 A5 A6 A7 A8 A9 B0 B1 B2 B3 B4).2.2 (ix1 k)
    = BitVec.ofBool (decide (B4 (ix2 k 4) ≤ Ideal.log1p (entropyShare (A2 (ix2 k 0)) (A2 (ix2 k 1)) (fun n => A1 (ix1 n))
        + eps * length (A2 (ix2 k 0)) (A2 (ix2 k 1))))) := by
  unfold fn fn_part1 fn_part2
  pointwise
  simp only [uitofp_mask, Fin.isLt]
  unfold entropyShare total length
  with_reducible rfl

/-! ### The tokens -/

/-- The row taken from the table for a type in the table. -/
theorem taken_row (k : Fin 64) (h0 : 0 ≤ (A6 (ix1 k)).toInt) (h1 : (A6 (ix1 k)).toInt < 32) (q : Fin 32) :
    fn_take A7 A6 (ix2 k q) = embedding (A6 (ix1 k)) (fun x q => A7 (ix2 x q)) q := by
  obtain ⟨t0, t1, t2⟩ := GuardedIdeal.Value.row_type h0 h1
  have e : Scalar.select (IntOp.cmpi .slt (A6 (ix1 k)) 0#32) (IntOp.addi (A6 (ix1 k)) 32#32) (A6 (ix1 k)) = A6 (ix1 k) := by
    rw [t0]
    rfl
  unfold fn_take fn_where
  pointwise
  refine (congrArg (fun z => Scalar.select _ z _) (GuardedIdeal.Value.take_row A7 _ k q)).trans ?_
  pointwise
  simp only [e, t1, t2]
  rw [embedding_eq h0 h1, Finset.univ_unique, Finset.fold_singleton]
  rfl

theorem tokens_bit (k : Fin 64) (o : Fin 256) (hp : Proper (A2 (ix2 k 0)) (A2 (ix2 k 1))) (h0 : 0 ≤ (A6 (ix1 k)).toInt)
    (h1 : (A6 (ix1 k)).toInt < 32) : (fn (F := Ideal) A0 A1 A2 A3 A4 A5 A6 A7 A8 A9 B0 B1 B2 B3 B4).1 (ix2 k o)
    = BitVec.ofBool (decide (B0 (ix2 k o)
        = ∑ d : Fin 512, mean (A2 (ix2 k 0)) (A2 (ix2 k 1)) (fun n => A0 (ix2 n d)) * A8 (ix2 o ⟨d.val, by omega⟩)
          + ∑ j : Fin 8, B4 (ix2 k j) * A8 (ix2 o ⟨512 + j.val, by omega⟩)
          + ∑ q : Fin 32, embedding (A6 (ix1 k)) (fun x q => A7 (ix2 x q)) q * A8 (ix2 o ⟨520 + q.val, by omega⟩)
          + A9 (ix1 o))) := by
  unfold fn fn_part1 fn_part2
  refine congrArg (fun z : EReal => BitVec.ofBool (decide (B0 (ix2 k o) = z)))
    ((GuardedIdeal.Value.parts_value _ B4 (fn_take A7 A6) A8 A9 k o).trans ?_)
  refine congrArg (· + A9 (ix1 o)) (congr (congrArg (fun x y : EReal => x + y) (congr (congrArg (fun x y : EReal => x + y)
    (Finset.sum_congr rfl fun d _ => ?_)) rfl)) (Finset.sum_congr rfl fun q _ => ?_))
  · refine congrArg (· * A8 (ix2 o ⟨d.val, by omega⟩)) ?_
    pointwise
    simp only [uitofp_mask, Fin.isLt]
    exact mean_of_count hp _
  · exact congrArg (· * A8 (ix2 o ⟨520 + q.val, by omega⟩)) (taken_row A6 A7 k h0 h1 q)

end Cert.Post_near_reference

/-! ### The kernel's results -/

namespace Cert.KernelIdeal.Value

open Cert.KernelIdeal Segment Idealize.SL.Sem Idealize.ShloMosaic.TcCoe

variable (m : (ℓ : Loc nD τ sig) → Buf (Elt Ideal) ℓ)

theorem stats_entry (c : Dev nD) (k : Fin 64) (j : Fin 8) : stats m c (ix2 k j) = statOf m c k j := rfl

/-- A token's entry, with the statistics as the kernel returns them. -/
theorem tokens_entry (c : Dev nD) (k : Fin 64) (o : Fin 256) : tokens m c (ix2 k o)
    = ∑ d : Fin 512, mean (start m c k) (stop m c k) (fun n => features m c (ix2 n d)) * weights m c (ix2 o ⟨d.val, by omega⟩)
      + ∑ j : Fin 8, stats m c (ix2 k j) * weights m c (ix2 o ⟨512 + j.val, by omega⟩)
      + ∑ q : Fin 32, embedding (eventType m c (ix1 k)) (fun x q => embTable m c (ix2 x q)) q
          * weights m c (ix2 o ⟨520 + q.val, by omega⟩)
      + bias m c (ix1 o) := by
  simp only [stats_entry]
  have h : tokens m c (ix2 k o) = tokenOf m c k o := rfl
  rw [h]
  unfold tokenOf token
  with_reducible rfl

/-- The kernel's tokens and statistics satisfy the postcondition, whatever the other results are. -/
theorem near [Cert.Post_near_reference.Facts] (c : Dev nD) (hs : ∀ k : Fin 64, Proper (start m c k) (stop m c k)
      ∧ 0 ≤ (eventType m c (ix1 k)).toInt ∧ (eventType m c (ix1 k)).toInt < 32)
    (he : ∀ n : Fin 16384, 0 ≤ energy m c (ix1 n) ∧ energy m c (ix1 n) < ⊤)
    (B1 : IVec S64 1) (B2 : IVec S64 32) (B3 : FVec Ideal S64 .f32) :
    (Cert.Post_near_reference.fn (F := Ideal) (features m c) (energy m c) (segments m c) (frameConf m c) (streamConf m c) (fps m c)
        (eventType m c) (embTable m c) (weights m c) (bias m c) (tokens m c) B1 B2 B3 (stats m c)).1 = (fun _ => 1#1)
    ∧ (Cert.Post_near_reference.fn (F := Ideal) (features m c) (energy m c) (segments m c) (frameConf m c) (streamConf m c) (fps m c)
        (eventType m c) (embTable m c) (weights m c) (bias m c) (tokens m c) B1 B2 B3 (stats m c)).2.1 = (fun _ => 1#1)
    ∧ (Cert.Post_near_reference.fn (F := Ideal) (features m c) (energy m c) (segments m c) (frameConf m c) (streamConf m c) (fps m c)
        (eventType m c) (embTable m c) (weights m c) (bias m c) (tokens m c) B1 B2 B3 (stats m c)).2.2 = (fun _ => 1#1) := by
  have column : ∀ k : Fin 64, stats m c (ix2 k 4) = Ideal.log1p (entropy (start m c k) (stop m c k) fun n => energy m c (ix1 n)) :=
    fun k => (stats_entry m c k 4).trans (stat_entropy _ _ _ _ _)
  have bounds := fun k : Fin 64 => entropy_column (hs k).1 (fun n => energy m c (ix1 n)) (fun n => (he n).1) (fun n => (he n).2)
  refine ⟨funext fun i => ?_, funext fun i => ?_, funext fun i => ?_⟩
  · rw [eq_ix2 i]
    refine (Cert.Post_near_reference.tokens_bit _ _ _ _ _ _ _ _ _ _ _ _ _ _ _ _ _ (hs _).1 (hs _).2.1 (hs _).2.2).trans
      (Cert.Post_near_reference.set_bit ?_)
    exact tokens_entry m c _ _
  · obtain ⟨k, rfl⟩ : ∃ k : Fin 64, i = ix1 k := ⟨i 0, eq_ix1 i⟩
    refine (Cert.Post_near_reference.entropy_low _ _ _ _ _ _ _ _ _ _ _ _ _ _ _ k).trans (Cert.Post_near_reference.set_bit ?_)
    rw [column k]
    exact (bounds k).1
  · obtain ⟨k, rfl⟩ : ∃ k : Fin 64, i = ix1 k := ⟨i 0, eq_ix1 i⟩
    refine (Cert.Post_near_reference.entropy_high _ _ _ _ _ _ _ _ _ _ _ _ _ _ _ k).trans (Cert.Post_near_reference.set_bit ?_)
    rw [column k]
    exact (bounds k).2

end Cert.KernelIdeal.Value
-- ==== Proof.lean ====
/-
  The certificate: the runs of the kernel and of the references, put together claim by claim.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.GuardedIdeal
public import proofs.«01_k».proof.Proof.Pairs
public import proofs.«01_k».proof.Proof.Assumptions
public import proofs.«01_k».proof.Proof.Postcondition
public import Idealize.ShloMosaic.Lib.Claim
public import Idealize.ShloMosaic.Lib.Quiescent

@[expose] public section

noncomputable section

namespace Cert.Proof

open Idealize.ShloMosaic Idealize.ShloMosaic.TcCoe Idealize.SL.Sem

/-! ### The reference, away from the entropy -/

theorem reference_claim : algebraic_KernelIdeal_ReferenceIdeal_on_but_entropy_pre_segments_valid := by
  intro m g m' g' hpre hagree
  have hgood : ∀ c, ReferenceIdeal.Value.Good m' c := fun c k => by
    have h := Cert.Pre_segments_valid.proper _ _ _ _ _ _ _ _ _ _ (hpre c) k
    rw [← (hagree c).2.2.1] at h
    exact h
  refine ⟨KernelIdeal.Value.tokens m, KernelIdeal.Value.attend m, fun c => m ((c.tc : Thread KernelIdeal.nD KernelIdeal.τ).loc KernelIdeal.main_arg6),
    KernelIdeal.Value.conf m, KernelIdeal.Value.stats m, ?_, ?_⟩
  · refine (θ_run KernelIdeal.defs _ _).mono (fun r h c => ?_) (θ_run_and (KernelIdeal.Value.run m g) (KernelIdeal.Gen.unchanged m g))
    obtain ⟨hv, ha⟩ := h
    exact ⟨fun i _ => congrFun (hv c).1 i, fun i _ => congrFun (hv c).2.1 i, fun i _ => congrFun (ha c).2.2.2.2.2.2.1 i,
      fun i _ => congrFun (hv c).2.2.1 i, fun i _ => congrFun (hv c).2.2.2 i, ha c⟩
  · refine (θ_run ReferenceIdeal.defs _ _).mono (fun r h c => ?_) (ReferenceIdeal.Value.run_spec g' hgood)
    obtain ⟨-, h1, h2, h3, h4, h5, h6, -⟩ := hagree c
    have hconf := Pairs.reference_conf m m' c h2 h3
    refine ⟨fun i hi => ?_, fun i _ => ?_, fun i _ => ?_, fun i _ => ?_, fun i hi => ?_, (h c).2.2.2.2.2⟩
    · rw [eq_ix2 i] at hi
      exact absurd hi (Cert.On_but_entropy.no_token _ _ _ _ _ _ _ _ _ _ _ _)
    · exact congrFun ((h c).2.1.trans (Pairs.reference_attend m m' c hconf)) i
    · exact congrFun ((h c).2.2.1.trans h6) i
    · exact congrFun ((h c).2.2.2.1.trans hconf) i
    · rw [eq_ix2 i] at hi ⊢
      have hj := Cert.On_but_entropy.column _ _ _ _ _ _ _ _ _ _ hi
      exact (congrFun (h c).2.2.2.2.1 _).trans ((ReferenceIdeal.Value.stats_value (hgood c) _ _ hj).trans
        (Pairs.reference_stats m m' c h1 h2 h4 h5 _ _))

/-! ### The guarded reference, everywhere -/

theorem guarded_claim : algebraic_KernelIdeal_GuardedIdeal_pre_inputs_valid := by
  intro m g m' g' hpre hagree
  have hgood : ∀ c, GuardedIdeal.Value.Good m' c := fun c => by
    have hs := Cert.Pre_inputs_valid.segment _ _ _ _ _ _ _ _ _ _ (hpre c).1
    have he := Cert.Pre_inputs_valid.energy _ _ _ _ _ _ _ _ _ _ (hpre c).2
    rw [← (hagree c).2.2.1, ← (hagree c).2.2.2.2.2.2.1] at hs
    rw [← (hagree c).2.1] at he
    exact ⟨fun k => (hs k).1, fun k => (hs k).2.1, fun k => (hs k).2.2, fun n => (he n).1, fun n => (he n).2⟩
  refine ⟨KernelIdeal.Value.tokens m, KernelIdeal.Value.attend m, fun c => m ((c.tc : Thread KernelIdeal.nD KernelIdeal.τ).loc KernelIdeal.main_arg6),
    KernelIdeal.Value.conf m, KernelIdeal.Value.stats m, ?_, ?_⟩
  · refine (θ_run KernelIdeal.defs _ _).mono (fun r h c => ?_) (θ_run_and (KernelIdeal.Value.run m g) (KernelIdeal.Gen.unchanged m g))
    obtain ⟨hv, ha⟩ := h
    exact ⟨(hv c).1, (hv c).2.1, (ha c).2.2.2.2.2.2.1, (hv c).2.2.1, (hv c).2.2.2, ha c⟩
  · refine (θ_run GuardedIdeal.defs _ _).mono (fun r h c => ?_) (GuardedIdeal.Value.run_spec g' hgood)
    obtain ⟨h0, h1, h2, h3, h4, h5, h6, h7, h8, h9⟩ := hagree c
    have hconf := Pairs.guarded_conf m m' c h2 h3
    exact ⟨(h c).1.trans (Pairs.guarded_tokens m m' c h0 h1 h2 h4 h5 h6 h7 h8 h9),
      (h c).2.1.trans (Pairs.guarded_attend m m' c hconf), (h c).2.2.1.trans h6, (h c).2.2.2.1.trans hconf,
      (h c).2.2.2.2.1.trans (Pairs.guarded_stats m m' c h1 h2 h4 h5), (h c).2.2.2.2.2⟩

/-! ### The postcondition: reference.py's entropy, guard and all, and the tokens over the kernel's own statistics -/

theorem near_claim (hpost : Cert.Post_near_reference.Facts) :
    holds_KernelIdeal_near_reference_pre_inputs_valid (hPost_near_reference := hpost) := by
  intro m g hpre
  refine (θ_run KernelIdeal.defs _ _).mono (fun r h c => ?_) (θ_run_and (KernelIdeal.Value.run m g) (KernelIdeal.Gen.unchanged m g))
  obtain ⟨hv, ha⟩ := h
  obtain ⟨htok, -, -, hstats⟩ := hv c
  obtain ⟨h0, h1, h2, h3, h4, h5, h6, h7, h8, h9⟩ := ha c
  have hs := Cert.Pre_inputs_valid.segment _ _ _ _ _ _ _ _ _ _ (hpre c).1
  have he := Cert.Pre_inputs_valid.energy _ _ _ _ _ _ _ _ _ _ (hpre c).2
  rw [htok, hstats]
  exact ⟨h0, h1, h2, h3, h4, h5, h6, h7, h8, h9, KernelIdeal.Value.near m c hs he _ _ _⟩

theorem claim : Cert.Claim :=
  ⟨Cert.Kernel.Gen.facts, Cert.KernelIdeal.Gen.facts, Cert.ReferenceIdeal.Gen.facts, Cert.GuardedIdeal.Gen.facts,
    Cert.Pre_segments_valid.Gen.facts, Cert.Pre_inputs_valid.Gen.facts, Cert.Post_near_reference.shapes, Cert.On_but_entropy.Gen.facts,
    fun m g _ => Cert.Kernel.Gen.frame m g,
    fun m g _ => Cert.KernelIdeal.Gen.frame m g, fun m g _ => Cert.KernelIdeal.Gen.frame m g, fun m g _ => Cert.KernelIdeal.Gen.frame m g,
    fun m g _ => (θ_run Cert.ReferenceIdeal.defs _ _).mono
      (fun r h => ⟨fun c => (h c).2.2.2.2.2, sem_eq_zero_of_no_sems (by decide) r.2⟩) (Cert.ReferenceIdeal.Value.run m g),
    fun m g _ => (θ_run Cert.ReferenceIdeal.defs _ _).mono
      (fun r h => ⟨fun c => (h c).2.2.2.2.2, sem_eq_zero_of_no_sems (by decide) r.2⟩) (Cert.ReferenceIdeal.Value.run m g),
    fun m g _ => (θ_run Cert.GuardedIdeal.defs _ _).mono
      (fun r h => ⟨fun c => (h c).2.2.2.2.2, sem_eq_zero_of_no_sems (by decide) r.2⟩) (Cert.GuardedIdeal.Value.run m g),
    fun m g _ => (θ_run Cert.GuardedIdeal.defs _ _).mono
      (fun r h => ⟨fun c => (h c).2.2.2.2.2, sem_eq_zero_of_no_sems (by decide) r.2⟩) (Cert.GuardedIdeal.Value.run m g),
    trivial, reference_claim, guarded_claim, near_claim _⟩

end Cert.Proof

end
